-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_finite_in_range : Cert.Pre_finite_in_range.Facts),
    quiescent_Kernel (hKernel := hKernel) (hPre_in_range := hPre_in_range)
    ∧ quiescent_KernelIdeal (hKernelIdeal := hKernelIdeal) (hPre_in_range := hPre_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S256x4096 : Shape := ⟨2, ![256, 4096]⟩
abbrev S4096x41 : Shape := ⟨2, ![4096, 41]⟩
abbrev S4096 : Shape := ⟨1, ![4096]⟩
abbrev S_ : Shape := ⟨0, ![]⟩

class Facts : Prop where
  bcast_S_S4096x41 : S_.BroadcastsInDim S4096x41 (![] : Fin 0 → Fin S4096x41.rank)
  reducesTo_S4096x41_S_d0_1 : S4096x41.ReducesTo [0, 1] S_
  h_S_ : 0 < S_.numel
  bcast_S_S256x4096 : S_.BroadcastsInDim S256x4096 (![] : Fin 0 → Fin S256x4096.rank)
  reducesTo_S256x4096_S_d0_1 : S256x4096.ReducesTo [0, 1] S_

variable [Facts]

def fn {F : FTy → Type} [FloatOps F] (main_arg0 : FVec F S256x4096 .f32) (main_arg1 : FVec F S4096x41 .f32) (main_arg2 : IVec S4096x41 32) (main_arg3 : FVec F S4096 .f32) : IVec S_ 1 :=
  let main_c : IVec S_ 32 := constantI S_ 32 0#32
  let main_v0 : IVec S4096x41 32 := broadcastInDim S4096x41 ![] bcast_S_S4096x41 main_c
  let main_v1 : IVec S4096x41 1 := cmpi .sge main_arg2 main_v0
  let main_c_0 : IVec S_ 32 := constantI S_ 32 4096#32
  let main_v2 : IVec S4096x41 32 := broadcastInDim S4096x41 ![] bcast_S_S4096x41 main_c_0
  let main_v3 : IVec S4096x41 1 := cmpi .slt main_arg2 main_v2
  let main_v4 : IVec S4096x41 1 := andi main_v1 main_v3
  let main_c_1 : IVec S_ 1 := constantI S_ 1 1#1
  let main_v5 : IVec S_ 1 := (fun x v => Host.reduce IntOp.andi x v reducesTo_S4096x41_S_d0_1 h_S_) main_v4 main_c_1
  let main_v6 : FVec F S256x4096 .f32 := Host.absf main_arg0
  let main_cst : FVec F S_ .f32 := constant S_ .f32 0x7F800000#32
  let main_v7 : FVec F S256x4096 .f32 := broadcastInDim S256x4096 ![] bcast_S_S256x4096 main_cst
  let main_v8 : IVec S256x4096 1 := cmpf .olt main_v6 main_v7
  let main_c_2 : IVec S_ 1 := constantI S_ 1 1#1
  let main_v9 : IVec S_ 1 := (fun x v => Host.reduce IntOp.andi x v reducesTo_S256x4096_S_d0_1 h_S_) main_v8 main_c_2
  let main_v10 : IVec S_ 1 := andi main_v5 main_v9
  let main_v11 : FVec F S4096x41 .f32 := Host.absf main_arg1
  let main_cst_3 : FVec F S_ .f32 := constant S_ .f32 0x7F800000#32
  let main_v12 : FVec F S4096x41 .f32 := broadcastInDim S4096x41 ![] bcast_S_S4096x41 main_cst_3
  let main_v13 : IVec S4096x41 1 := cmpf .olt main_v11 main_v12
  let main_c_4 : IVec S_ 1 := constantI S_ 1 1#1
  let main_v14 : IVec S_ 1 := (fun x v => Host.reduce IntOp.andi x v reducesTo_S4096x41_S_d0_1 h_S_) main_v13 main_c_4
  let main_v15 : IVec S_ 1 := andi main_v10 main_v14
  main_v15
-- ==== Pre_in_range.lean ====
abbrev S256x4096 : Shape := ⟨2, ![256, 4096]⟩
abbrev S4096x41 : Shape := ⟨2, ![4096, 41]⟩
abbrev S4096 : Shape := ⟨1, ![4096]⟩
abbrev S_ : Shape := ⟨0, ![]⟩

class Facts : Prop where
  bcast_S_S4096x41 : S_.BroadcastsInDim S4096x41 (![] : Fin 0 → Fin S4096x41.rank)
  reducesTo_S4096x41_S_d0_1 : S4096x41.ReducesTo [0, 1] S_
  h_S_ : 0 < S_.numel

variable [Facts]

def fn {F : FTy → Type} [FloatOps F] (main_arg0 : FVec F S256x4096 .f32) (main_arg1 : FVec F S4096x41 .f32) (main_arg2 : IVec S4096x41 32) (main_arg3 : FVec F S4096 .f32) : IVec S_ 1 :=
  let main_c : IVec S_ 32 := constantI S_ 32 0#32
  let main_v0 : IVec S4096x41 32 := broadcastInDim S4096x41 ![] bcast_S_S4096x41 main_c
  let main_v1 : IVec S4096x41 1 := cmpi .sge main_arg2 main_v0
  let main_c_0 : IVec S_ 32 := constantI S_ 32 4096#32
  let main_v2 : IVec S4096x41 32 := broadcastInDim S4096x41 ![] bcast_S_S4096x41 main_c_0
  let main_v3 : IVec S4096x41 1 := cmpi .slt main_arg2 main_v2
  let main_v4 : IVec S4096x41 1 := andi main_v1 main_v3
  let main_c_1 : IVec S_ 1 := constantI S_ 1 1#1
  let main_v5 : IVec S_ 1 := (fun x v => Host.reduce IntOp.andi x v reducesTo_S4096x41_S_d0_1 h_S_) main_v4 main_c_1
  main_v5
-- ==== Kernel.lean ====
abbrev S256x4096 : Shape := ⟨2, ![256, 4096]⟩
abbrev S4096x41 : Shape := ⟨2, ![4096, 41]⟩
abbrev S4096 : Shape := ⟨1, ![4096]⟩
abbrev S_ : Shape := ⟨0, ![]⟩
abbrev S4096x48 : Shape := ⟨2, ![4096, 48]⟩
abbrev S4096x4096 : Shape := ⟨2, ![4096, 4096]⟩
abbrev S128x48 : Shape := ⟨2, ![128, 48]⟩
abbrev S4x4096 : Shape := ⟨2, ![4, 4096]⟩
abbrev S16 : Shape := ⟨1, ![16]⟩
abbrev S1x16 : Shape := ⟨2, ![1, 16]⟩
abbrev S512x4096 : Shape := ⟨2, ![512, 4096]⟩
abbrev S256x512 : Shape := ⟨2, ![256, 512]⟩
abbrev S512 : Shape := ⟨1, ![512]⟩
abbrev S1x512 : Shape := ⟨2, ![1, 512]⟩

abbrev nBuf : Table → Nat
  | .hbm => 12
  | .local .tc .vmem => 6
  | .local .scVector .vmem => 4
  | _ => 0

abbrev bufTy : (tb : Table) → Fin (nBuf tb) → BufTy
  | .hbm, ⟨0, _⟩ => ⟨S256x4096, .f32⟩
  | .hbm, ⟨1, _⟩ => ⟨S4096x41, .f32⟩
  | .hbm, ⟨2, _⟩ => ⟨S4096x41, .i32⟩
  | .hbm, ⟨3, _⟩ => ⟨S4096, .f32⟩
  | .hbm, ⟨4, _⟩ => ⟨S_, .i32⟩
  | .hbm, ⟨5, _⟩ => ⟨S_, .f32⟩
  | .hbm, ⟨6, _⟩ => ⟨S4096x48, .f32⟩
  | .hbm, ⟨7, _⟩ => ⟨S_, .i32⟩
  | .hbm, ⟨8, _⟩ => ⟨S_, .i32⟩
  | .hbm, ⟨9, _⟩ => ⟨S4096x48, .i32⟩
  | .hbm, ⟨10, _⟩ => ⟨S4096x4096, .f32⟩
  | .hbm, ⟨11, _⟩ => ⟨S256x4096, .f32⟩
  | .local .tc .vmem, ⟨0, _⟩ => ⟨S256x4096, .f32⟩
  | .local .tc .vmem, ⟨1, _⟩ => ⟨S512x4096, .f32⟩
  | .local .tc .vmem, ⟨2, _⟩ => ⟨S512x4096, .f32⟩
  | .local .tc .vmem, ⟨3, _⟩ => ⟨S4096, .f32⟩
  | .local .tc .vmem, ⟨4, _⟩ => ⟨S256x512, .f32⟩
  | .local .tc .vmem, ⟨5, _⟩ => ⟨S256x512, .f32⟩
  | .local .scVector .vmem, ⟨0, _⟩ => ⟨S128x48, .f32⟩
  | .local .scVector .vmem, ⟨1, _⟩ => ⟨S128x48, .i32⟩
  | .local .scVector .vmem, ⟨2, _⟩ => ⟨S4x4096, .f32⟩
  | .local .scVector .vmem, ⟨3, _⟩ => ⟨S4x4096, .f32⟩
  | _, _ => ⟨S256x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v0_scv : Ref sig .scVector := ⟨.hbm, 6, rfl⟩
abbrev main_v1_scv : Ref sig .scVector := ⟨.hbm, 9, rfl⟩
abbrev main_v2_scv : Ref sig .scVector := ⟨.hbm, 10, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem3_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_10_r0 : BitVec 32 := 0#32
  ![v2.toNat, 0]
@[reducible] def k0_t1_loop : Scf.Loop 32 :=
  let c0_i32_0 : BitVec 32 := 0#32
  let c256_i32 : BitVec 32 := 256#32
  let v4 : BitVec 32 := Scalar.addi c0_i32_0 c256_i32
  let c1_i32 : BitVec 32 := 1#32
  ⟨c0_i32_0, v4, c1_i32⟩
def k0_off2 (k0_t1 : Fin k0_t1_loop.trips) : Fin 2 → Nat :=
  let c0_i32_11 : BitVec 32 := 0#32
  let v11 : Index := Scalar.indexCast c0_i32_11
  let c0_i32_0 : BitVec 32 := 0#32
  let c1_i32 : BitVec 32 := 1#32
  let arg11 : BitVec 32 := Scf.iv c0_i32_0 c1_i32 k0_t1
  let c16_i32_10 : BitVec 32 := 16#32
  let v10 : BitVec 32 := Scalar.muli arg11 c16_i32_10
  let v12 : Index := Scalar.indexCast v10
  ![0, v12.toNat]
def k0_off3 (k0_t1 : Fin k0_t1_loop.trips) : Fin 2 → Nat :=
  let c1_i32_15 : BitVec 32 := 1#32
  let v19 : Index := Scalar.indexCast c1_i32_15
  let c0_i32_0 : BitVec 32 := 0#32
  let c1_i32 : BitVec 32 := 1#32
  let arg11 : BitVec 32 := Scf.iv c0_i32_0 c1_i32 k0_t1
  let c16_i32_14 : BitVec 32 := 16#32
  let v18 : BitVec 32 := Scalar.muli arg11 c16_i32_14
  let v20 : Index := Scalar.indexCast v18
  ![1, v20.toNat]
def k0_off4 (k0_t1 : Fin k0_t1_loop.trips) : Fin 2 → Nat :=
  let c2_i32_19 : BitVec 32 := 2#32
  let v27 : Index := Scalar.indexCast c2_i32_19
  let c0_i32_0 : BitVec 32 := 0#32
  let c1_i32 : BitVec 32 := 1#32
  let arg11 : BitVec 32 := Scf.iv c0_i32_0 c1_i32 k0_t1
  let c16_i32_18 : BitVec 32 := 16#32
  let v26 : BitVec 32 := Scalar.muli arg11 c16_i32_18
  let v28 : Index := Scalar.indexCast v26
  ![2, v28.toNat]
def k0_off5 (k0_t1 : Fin k0_t1_loop.trips) : Fin 2 → Nat :=
  let c3_i32 : BitVec 32 := 3#32
  let v35 : Index := Scalar.indexCast c3_i32
  let c0_i32_0 : BitVec 32 := 0#32
  let c1_i32 : BitVec 32 := 1#32
  let arg11 : BitVec 32 := Scf.iv c0_i32_0 c1_i32 k0_t1
  let c16_i32_22 : BitVec 32 := 16#32
  let v34 : BitVec 32 := Scalar.muli arg11 c16_i32_22
  let v36 : Index := Scalar.indexCast v34
  ![3, v36.toNat]
@[reducible] def k0_t2_loop : Scf.Loop 32 :=
  let c0_i32_3 : BitVec 32 := 0#32
  let c16_i32 : BitVec 32 := 16#32
  let v5 : BitVec 32 := Scalar.addi c0_i32_3 c16_i32
  let c1_i32_4 : BitVec 32 := 1#32
  ⟨c0_i32_3, v5, c1_i32_4⟩
def k0_cond1 (k0_t2 : Fin k0_t2_loop.trips) : BitVec 1 :=
  let c0_i32_3 : BitVec 32 := 0#32
  let c1_i32_4 : BitVec 32 := 1#32
  let arg11 : BitVec 32 := Scf.iv c0_i32_3 c1_i32_4 k0_t2
  let c0_i32_12 : BitVec 32 := 0#32
  let v12 : BitVec 1 := Scalar.cmpi .sgt arg11 c0_i32_12
  let v13 : BitVec 32 := Scalar.extui v12
  let c0_i32_13 : BitVec 32 := 0#32
  let v14 : BitVec 1 := Scalar.cmpi .ne v13 c0_i32_13
  v14

def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_91 : BitVec 32 := 0#32
  ![v2.toNat, 0]
def k0_off7 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c2_i32_94 : BitVec 32 := 2#32
  let v151 : BitVec 32 := Scalar.subi v11 c2_i32_94
  let c4_i32_95 : BitVec 32 := 4#32
  let v152 : BitVec 32 := Scalar.muli v151 c4_i32_95
  let c0_i32_96 : BitVec 32 := 0#32
  let v153 : BitVec 32 := Scalar.addi v152 c0_i32_96
  let v154 : Index := Scalar.indexCast v153
  let c0_97 : Index := 0#32
  ![v154.toNat, 0]

def k0_chk1 (k0_t2 : Fin k0_t2_loop.trips) (v150 : IVec S16 32) (v155 : IVec S16 32) : Prop :=
  (∀ (k0_h1 : k0_cond1 k0_t2 = 1#1), ∀ a x, ((![v150, v155] : Fin 2 → IVec S16 32) a x).toNat < S4x4096.size a)
theorem k0_idx1_inb : ∀ (k0_t2 : Fin k0_t2_loop.trips) (v150 : IVec S16 32) (v155 : IVec S16 32) (k0_hw1 : k0_chk1 k0_t2 v150 v155), ∀ (k0_h1 : k0_cond1 k0_t2 = 1#1), ∀ a x, ((![v150, v155] : Fin 2 → IVec S16 32) a x).toNat < S4x4096.size a := fun k0_t2 v150 v155 k0_hw1 k0_h1 => k0_hw1 k0_h1
def k0_off8 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c2_i32_94 : BitVec 32 := 2#32
  let v151 : BitVec 32 := Scalar.subi v11 c2_i32_94
  let c4_i32_95 : BitVec 32 := 4#32
  let v152 : BitVec 32 := Scalar.muli v151 c4_i32_95
  let c0_i32_96 : BitVec 32 := 0#32
  let v153 : BitVec 32 := Scalar.addi v152 c0_i32_96
  let v156 : Index := Scalar.indexCast v153
  let c16_98 : Index := 16#32
  ![v156.toNat, 16]

def k0_chk2 (k0_t2 : Fin k0_t2_loop.trips) (v150 : IVec S16 32) (v157 : IVec S16 32) : Prop :=
  (∀ (k0_h1 : k0_cond1 k0_t2 = 1#1), ∀ a x, ((![v150, v157] : Fin 2 → IVec S16 32) a x).toNat < S4x4096.size a)
theorem k0_idx2_inb : ∀ (k0_t2 : Fin k0_t2_loop.trips) (v150 : IVec S16 32) (v157 : IVec S16 32) (k0_hw2 : k0_chk2 k0_t2 v150 v157), ∀ (k0_h1 : k0_cond1 k0_t2 = 1#1), ∀ a x, ((![v150, v157] : Fin 2 → IVec S16 32) a x).toNat < S4x4096.size a := fun k0_t2 v150 v157 k0_hw2 k0_h1 => k0_hw2 k0_h1
def k0_off9 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c2_i32_94 : BitVec 32 := 2#32
  let v151 : BitVec 32 := Scalar.subi v11 c2_i32_94
  let c4_i32_95 : BitVec 32 := 4#32
  let v152 : BitVec 32 := Scalar.muli v151 c4_i32_95
  let c0_i32_96 : BitVec 32 := 0#32
  let v153 : BitVec 32 := Scalar.addi v152 c0_i32_96
  let v158 : Index := Scalar.indexCast v153
  let c32_99 : Index := 32#32
  ![v158.toNat, 32]

def k0_chk3 (k0_t2 : Fin k0_t2_loop.trips) (v150 : IVec S16 32) (v159 : IVec S16 32) : Prop :=
  (∀ (k0_h1 : k0_cond1 k0_t2 = 1#1), ∀ a x, ((![v150, v159] : Fin 2 → IVec S16 32) a x).toNat < S4x4096.size a)
theorem k0_idx3_inb : ∀ (k0_t2 : Fin k0_t2_loop.trips) (v150 : IVec S16 32) (v159 : IVec S16 32) (k0_hw3 : k0_chk3 k0_t2 v150 v159), ∀ (k0_h1 : k0_cond1 k0_t2 = 1#1), ∀ a x, ((![v150, v159] : Fin 2 → IVec S16 32) a x).toNat < S4x4096.size a := fun k0_t2 v150 v159 k0_hw3 k0_h1 => k0_hw3 k0_h1
def k0_off10 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c2_i32_101 : BitVec 32 := 2#32
  let v161 : BitVec 32 := Scalar.subi v11 c2_i32_101
  let c4_i32_102 : BitVec 32 := 4#32
  let v162 : BitVec 32 := Scalar.muli v161 c4_i32_102
  let c1_i32_103 : BitVec 32 := 1#32
  let v163 : BitVec 32 := Scalar.addi v162 c1_i32_103
  let v164 : Index := Scalar.indexCast v163
  let c0_104 : Index := 0#32
  ![v164.toNat, 0]

def k0_chk4 (k0_t2 : Fin k0_t2_loop.trips) (v160 : IVec S16 32) (v165 : IVec S16 32) : Prop :=
  (∀ (k0_h1 : k0_cond1 k0_t2 = 1#1), ∀ a x, ((![v160, v165] : Fin 2 → IVec S16 32) a x).toNat < S4x4096.size a)
theorem k0_idx4_inb : ∀ (k0_t2 : Fin k0_t2_loop.trips) (v160 : IVec S16 32) (v165 : IVec S16 32) (k0_hw4 : k0_chk4 k0_t2 v160 v165), ∀ (k0_h1 : k0_cond1 k0_t2 = 1#1), ∀ a x, ((![v160, v165] : Fin 2 → IVec S16 32) a x).toNat < S4x4096.size a := fun k0_t2 v160 v165 k0_hw4 k0_h1 => k0_hw4 k0_h1
def k0_off11 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c2_i32_101 : BitVec 32 := 2#32
  let v161 : BitVec 32 := Scalar.subi v11 c2_i32_101
  let c4_i32_102 : BitVec 32 := 4#32
  let v162 : BitVec 32 := Scalar.muli v161 c4_i32_102
  let c1_i32_103 : BitVec 32 := 1#32
  let v163 : BitVec 32 := Scalar.addi v162 c1_i32_103
  let v166 : Index := Scalar.indexCast v163
  let c16_105 : Index := 16#32
  ![v166.toNat, 16]

def k0_chk5 (k0_t2 : Fin k0_t2_loop.trips) (v160 : IVec S16 32) (v167 : IVec S16 32) : Prop :=
  (∀ (k0_h1 : k0_cond1 k0_t2 = 1#1), ∀ a x, ((![v160, v167] : Fin 2 → IVec S16 32) a x).toNat < S4x4096.size a)
theorem k0_idx5_inb : ∀ (k0_t2 : Fin k0_t2_loop.trips) (v160 : IVec S16 32) (v167 : IVec S16 32) (k0_hw5 : k0_chk5 k0_t2 v160 v167), ∀ (k0_h1 : k0_cond1 k0_t2 = 1#1), ∀ a x, ((![v160, v167] : Fin 2 → IVec S16 32) a x).toNat < S4x4096.size a := fun k0_t2 v160 v167 k0_hw5 k0_h1 => k0_hw5 k0_h1
def k0_off12 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c2_i32_101 : BitVec 32 := 2#32
  let v161 : BitVec 32 := Scalar.subi v11 c2_i32_101
  let c4_i32_102 : BitVec 32 := 4#32
  let v162 : BitVec 32 := Scalar.muli v161 c4_i32_102
  let c1_i32_103 : BitVec 32 := 1#32
  let v163 : BitVec 32 := Scalar.addi v162 c1_i32_103
  let v168 : Index := Scalar.indexCast v163
  let c32_106 : Index := 32#32
  ![v168.toNat, 32]

def k0_chk6 (k0_t2 : Fin k0_t2_loop.trips) (v160 : IVec S16 32) (v169 : IVec S16 32) : Prop :=
  (∀ (k0_h1 : k0_cond1 k0_t2 = 1#1), ∀ a x, ((![v160, v169] : Fin 2 → IVec S16 32) a x).toNat < S4x4096.size a)
theorem k0_idx6_inb : ∀ (k0_t2 : Fin k0_t2_loop.trips) (v160 : IVec S16 32) (v169 : IVec S16 32) (k0_hw6 : k0_chk6 k0_t2 v160 v169), ∀ (k0_h1 : k0_cond1 k0_t2 = 1#1), ∀ a x, ((![v160, v169] : Fin 2 → IVec S16 32) a x).toNat < S4x4096.size a := fun k0_t2 v160 v169 k0_hw6 k0_h1 => k0_hw6 k0_h1
def k0_off13 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c2_i32_108 : BitVec 32 := 2#32
  let v171 : BitVec 32 := Scalar.subi v11 c2_i32_108
  let c4_i32_109 : BitVec 32 := 4#32
  let v172 : BitVec 32 := Scalar.muli v171 c4_i32_109
  let c2_i32_110 : BitVec 32 := 2#32
  let v173 : BitVec 32 := Scalar.addi v172 c2_i32_110
  let v174 : Index := Scalar.indexCast v173
  let c0_111 : Index := 0#32
  ![v174.toNat, 0]

def k0_chk7 (k0_t2 : Fin k0_t2_loop.trips) (v170 : IVec S16 32) (v175 : IVec S16 32) : Prop :=
  (∀ (k0_h1 : k0_cond1 k0_t2 = 1#1), ∀ a x, ((![v170, v175] : Fin 2 → IVec S16 32) a x).toNat < S4x4096.size a)
theorem k0_idx7_inb : ∀ (k0_t2 : Fin k0_t2_loop.trips) (v170 : IVec S16 32) (v175 : IVec S16 32) (k0_hw7 : k0_chk7 k0_t2 v170 v175), ∀ (k0_h1 : k0_cond1 k0_t2 = 1#1), ∀ a x, ((![v170, v175] : Fin 2 → IVec S16 32) a x).toNat < S4x4096.size a := fun k0_t2 v170 v175 k0_hw7 k0_h1 => k0_hw7 k0_h1
def k0_off14 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c2_i32_108 : BitVec 32 := 2#32
  let v171 : BitVec 32 := Scalar.subi v11 c2_i32_108
  let c4_i32_109 : BitVec 32 := 4#32
  let v172 : BitVec 32 := Scalar.muli v171 c4_i32_109
  let c2_i32_110 : BitVec 32 := 2#32
  let v173 : BitVec 32 := Scalar.addi v172 c2_i32_110
  let v176 : Index := Scalar.indexCast v173
  let c16_112 : Index := 16#32
  ![v176.toNat, 16]

def k0_chk8 (k0_t2 : Fin k0_t2_loop.trips) (v170 : IVec S16 32) (v177 : IVec S16 32) : Prop :=
  (∀ (k0_h1 : k0_cond1 k0_t2 = 1#1), ∀ a x, ((![v170, v177] : Fin 2 → IVec S16 32) a x).toNat < S4x4096.size a)
theorem k0_idx8_inb : ∀ (k0_t2 : Fin k0_t2_loop.trips) (v170 : IVec S16 32) (v177 : IVec S16 32) (k0_hw8 : k0_chk8 k0_t2 v170 v177), ∀ (k0_h1 : k0_cond1 k0_t2 = 1#1), ∀ a x, ((![v170, v177] : Fin 2 → IVec S16 32) a x).toNat < S4x4096.size a := fun k0_t2 v170 v177 k0_hw8 k0_h1 => k0_hw8 k0_h1
def k0_off15 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c2_i32_108 : BitVec 32 := 2#32
  let v171 : BitVec 32 := Scalar.subi v11 c2_i32_108
  let c4_i32_109 : BitVec 32 := 4#32
  let v172 : BitVec 32 := Scalar.muli v171 c4_i32_109
  let c2_i32_110 : BitVec 32 := 2#32
  let v173 : BitVec 32 := Scalar.addi v172 c2_i32_110
  let v178 : Index := Scalar.indexCast v173
  let c32_113 : Index := 32#32
  ![v178.toNat, 32]

def k0_chk9 (k0_t2 : Fin k0_t2_loop.trips) (v170 : IVec S16 32) (v179 : IVec S16 32) : Prop :=
  (∀ (k0_h1 : k0_cond1 k0_t2 = 1#1), ∀ a x, ((![v170, v179] : Fin 2 → IVec S16 32) a x).toNat < S4x4096.size a)
theorem k0_idx9_inb : ∀ (k0_t2 : Fin k0_t2_loop.trips) (v170 : IVec S16 32) (v179 : IVec S16 32) (k0_hw9 : k0_chk9 k0_t2 v170 v179), ∀ (k0_h1 : k0_cond1 k0_t2 = 1#1), ∀ a x, ((![v170, v179] : Fin 2 → IVec S16 32) a x).toNat < S4x4096.size a := fun k0_t2 v170 v179 k0_hw9 k0_h1 => k0_hw9 k0_h1
def k0_off16 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c2_i32_115 : BitVec 32 := 2#32
  let v181 : BitVec 32 := Scalar.subi v11 c2_i32_115
  let c4_i32_116 : BitVec 32 := 4#32
  let v182 : BitVec 32 := Scalar.muli v181 c4_i32_116
  let c3_i32_117 : BitVec 32 := 3#32
  let v183 : BitVec 32 := Scalar.addi v182 c3_i32_117
  let v184 : Index := Scalar.indexCast v183
  let c0_118 : Index := 0#32
  ![v184.toNat, 0]

def k0_chk10 (k0_t2 : Fin k0_t2_loop.trips) (v180 : IVec S16 32) (v185 : IVec S16 32) : Prop :=
  (∀ (k0_h1 : k0_cond1 k0_t2 = 1#1), ∀ a x, ((![v180, v185] : Fin 2 → IVec S16 32) a x).toNat < S4x4096.size a)
theorem k0_idx10_inb : ∀ (k0_t2 : Fin k0_t2_loop.trips) (v180 : IVec S16 32) (v185 : IVec S16 32) (k0_hw10 : k0_chk10 k0_t2 v180 v185), ∀ (k0_h1 : k0_cond1 k0_t2 = 1#1), ∀ a x, ((![v180, v185] : Fin 2 → IVec S16 32) a x).toNat < S4x4096.size a := fun k0_t2 v180 v185 k0_hw10 k0_h1 => k0_hw10 k0_h1
def k0_off17 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c2_i32_115 : BitVec 32 := 2#32
  let v181 : BitVec 32 := Scalar.subi v11 c2_i32_115
  let c4_i32_116 : BitVec 32 := 4#32
  let v182 : BitVec 32 := Scalar.muli v181 c4_i32_116
  let c3_i32_117 : BitVec 32 := 3#32
  let v183 : BitVec 32 := Scalar.addi v182 c3_i32_117
  let v186 : Index := Scalar.indexCast v183
  let c16_119 : Index := 16#32
  ![v186.toNat, 16]

def k0_chk11 (k0_t2 : Fin k0_t2_loop.trips) (v180 : IVec S16 32) (v187 : IVec S16 32) : Prop :=
  (∀ (k0_h1 : k0_cond1 k0_t2 = 1#1), ∀ a x, ((![v180, v187] : Fin 2 → IVec S16 32) a x).toNat < S4x4096.size a)
theorem k0_idx11_inb : ∀ (k0_t2 : Fin k0_t2_loop.trips) (v180 : IVec S16 32) (v187 : IVec S16 32) (k0_hw11 : k0_chk11 k0_t2 v180 v187), ∀ (k0_h1 : k0_cond1 k0_t2 = 1#1), ∀ a x, ((![v180, v187] : Fin 2 → IVec S16 32) a x).toNat < S4x4096.size a := fun k0_t2 v180 v187 k0_hw11 k0_h1 => k0_hw11 k0_h1
def k0_off18 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c2_i32_115 : BitVec 32 := 2#32
  let v181 : BitVec 32 := Scalar.subi v11 c2_i32_115
  let c4_i32_116 : BitVec 32 := 4#32
  let v182 : BitVec 32 := Scalar.muli v181 c4_i32_116
  let c3_i32_117 : BitVec 32 := 3#32
  let v183 : BitVec 32 := Scalar.addi v182 c3_i32_117
  let v188 : Index := Scalar.indexCast v183
  let c32_120 : Index := 32#32
  ![v188.toNat, 32]

def k0_chk12 (k0_t2 : Fin k0_t2_loop.trips) (v180 : IVec S16 32) (v189 : IVec S16 32) : Prop :=
  (∀ (k0_h1 : k0_cond1 k0_t2 = 1#1), ∀ a x, ((![v180, v189] : Fin 2 → IVec S16 32) a x).toNat < S4x4096.size a)
theorem k0_idx12_inb : ∀ (k0_t2 : Fin k0_t2_loop.trips) (v180 : IVec S16 32) (v189 : IVec S16 32) (k0_hw12 : k0_chk12 k0_t2 v180 v189), ∀ (k0_h1 : k0_cond1 k0_t2 = 1#1), ∀ a x, ((![v180, v189] : Fin 2 → IVec S16 32) a x).toNat < S4x4096.size a := fun k0_t2 v180 v189 k0_hw12 k0_h1 => k0_hw12 k0_h1
def k0_off19 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c4_i32 : BitVec 32 := 4#32
  let v16 : BitVec 32 := Scalar.muli v11 c4_i32
  let c0_i32_15 : BitVec 32 := 0#32
  let v17 : BitVec 32 := Scalar.addi v16 c0_i32_15
  let v18 : Index := Scalar.indexCast v17
  let c0 : Index := 0#32
  ![v18.toNat, 0]

def k0_chk13 (v15 : IVec S16 32) (v19 : IVec S16 32) : Prop :=
  (∀ a x, ((![v15, v19] : Fin 2 → IVec S16 32) a x).toNat < S4x4096.size a)
theorem k0_idx13_inb : ∀ (v15 : IVec S16 32) (v19 : IVec S16 32) (k0_hw13 : k0_chk13 v15 v19), ∀ a x, ((![v15, v19] : Fin 2 → IVec S16 32) a x).toNat < S4x4096.size a := fun v15 v19 k0_hw13 => k0_hw13
def k0_off20 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c4_i32 : BitVec 32 := 4#32
  let v16 : BitVec 32 := Scalar.muli v11 c4_i32
  let c0_i32_15 : BitVec 32 := 0#32
  let v17 : BitVec 32 := Scalar.addi v16 c0_i32_15
  let v22 : Index := Scalar.indexCast v17
  let c16 : Index := 16#32
  ![v22.toNat, 16]

def k0_chk14 (v15 : IVec S16 32) (v23 : IVec S16 32) : Prop :=
  (∀ a x, ((![v15, v23] : Fin 2 → IVec S16 32) a x).toNat < S4x4096.size a)
theorem k0_idx14_inb : ∀ (v15 : IVec S16 32) (v23 : IVec S16 32) (k0_hw14 : k0_chk14 v15 v23), ∀ a x, ((![v15, v23] : Fin 2 → IVec S16 32) a x).toNat < S4x4096.size a := fun v15 v23 k0_hw14 => k0_hw14
def k0_off21 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c4_i32 : BitVec 32 := 4#32
  let v16 : BitVec 32 := Scalar.muli v11 c4_i32
  let c0_i32_15 : BitVec 32 := 0#32
  let v17 : BitVec 32 := Scalar.addi v16 c0_i32_15
  let v26 : Index := Scalar.indexCast v17
  let c32 : Index := 32#32
  ![v26.toNat, 32]

def k0_chk15 (v15 : IVec S16 32) (v27 : IVec S16 32) : Prop :=
  (∀ a x, ((![v15, v27] : Fin 2 → IVec S16 32) a x).toNat < S4x4096.size a)
theorem k0_idx15_inb : ∀ (v15 : IVec S16 32) (v27 : IVec S16 32) (k0_hw15 : k0_chk15 v15 v27), ∀ a x, ((![v15, v27] : Fin 2 → IVec S16 32) a x).toNat < S4x4096.size a := fun v15 v27 k0_hw15 => k0_hw15
def k0_off22 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c4_i32_20 : BitVec 32 := 4#32
  let v31 : BitVec 32 := Scalar.muli v11 c4_i32_20
  let c1_i32_21 : BitVec 32 := 1#32
  let v32 : BitVec 32 := Scalar.addi v31 c1_i32_21
  let v33 : Index := Scalar.indexCast v32
  let c0_22 : Index := 0#32
  ![v33.toNat, 0]

def k0_chk16 (v30 : IVec S16 32) (v34 : IVec S16 32) : Prop :=
  (∀ a x, ((![v30, v34] : Fin 2 → IVec S16 32) a x).toNat < S4x4096.size a)
theorem k0_idx16_inb : ∀ (v30 : IVec S16 32) (v34 : IVec S16 32) (k0_hw16 : k0_chk16 v30 v34), ∀ a x, ((![v30, v34] : Fin 2 → IVec S16 32) a x).toNat < S4x4096.size a := fun v30 v34 k0_hw16 => k0_hw16
def k0_off23 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c4_i32_20 : BitVec 32 := 4#32
  let v31 : BitVec 32 := Scalar.muli v11 c4_i32_20
  let c1_i32_21 : BitVec 32 := 1#32
  let v32 : BitVec 32 := Scalar.addi v31 c1_i32_21
  let v37 : Index := Scalar.indexCast v32
  let c16_24 : Index := 16#32
  ![v37.toNat, 16]

def k0_chk17 (v30 : IVec S16 32) (v38 : IVec S16 32) : Prop :=
  (∀ a x, ((![v30, v38] : Fin 2 → IVec S16 32) a x).toNat < S4x4096.size a)
theorem k0_idx17_inb : ∀ (v30 : IVec S16 32) (v38 : IVec S16 32) (k0_hw17 : k0_chk17 v30 v38), ∀ a x, ((![v30, v38] : Fin 2 → IVec S16 32) a x).toNat < S4x4096.size a := fun v30 v38 k0_hw17 => k0_hw17
def k0_off24 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c4_i32_20 : BitVec 32 := 4#32
  let v31 : BitVec 32 := Scalar.muli v11 c4_i32_20
  let c1_i32_21 : BitVec 32 := 1#32
  let v32 : BitVec 32 := Scalar.addi v31 c1_i32_21
  let v41 : Index := Scalar.indexCast v32
  let c32_26 : Index := 32#32
  ![v41.toNat, 32]

def k0_chk18 (v30 : IVec S16 32) (v42 : IVec S16 32) : Prop :=
  (∀ a x, ((![v30, v42] : Fin 2 → IVec S16 32) a x).toNat < S4x4096.size a)
theorem k0_idx18_inb : ∀ (v30 : IVec S16 32) (v42 : IVec S16 32) (k0_hw18 : k0_chk18 v30 v42), ∀ a x, ((![v30, v42] : Fin 2 → IVec S16 32) a x).toNat < S4x4096.size a := fun v30 v42 k0_hw18 => k0_hw18
def k0_off25 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c4_i32_29 : BitVec 32 := 4#32
  let v46 : BitVec 32 := Scalar.muli v11 c4_i32_29
  let c2_i32_30 : BitVec 32 := 2#32
  let v47 : BitVec 32 := Scalar.addi v46 c2_i32_30
  let v48 : Index := Scalar.indexCast v47
  let c0_31 : Index := 0#32
  ![v48.toNat, 0]

def k0_chk19 (v45 : IVec S16 32) (v49 : IVec S16 32) : Prop :=
  (∀ a x, ((![v45, v49] : Fin 2 → IVec S16 32) a x).toNat < S4x4096.size a)
theorem k0_idx19_inb : ∀ (v45 : IVec S16 32) (v49 : IVec S16 32) (k0_hw19 : k0_chk19 v45 v49), ∀ a x, ((![v45, v49] : Fin 2 → IVec S16 32) a x).toNat < S4x4096.size a := fun v45 v49 k0_hw19 => k0_hw19
def k0_off26 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c4_i32_29 : BitVec 32 := 4#32
  let v46 : BitVec 32 := Scalar.muli v11 c4_i32_29
  let c2_i32_30 : BitVec 32 := 2#32
  let v47 : BitVec 32 := Scalar.addi v46 c2_i32_30
  let v52 : Index := Scalar.indexCast v47
  let c16_33 : Index := 16#32
  ![v52.toNat, 16]

def k0_chk20 (v45 : IVec S16 32) (v53 : IVec S16 32) : Prop :=
  (∀ a x, ((![v45, v53] : Fin 2 → IVec S16 32) a x).toNat < S4x4096.size a)
theorem k0_idx20_inb : ∀ (v45 : IVec S16 32) (v53 : IVec S16 32) (k0_hw20 : k0_chk20 v45 v53), ∀ a x, ((![v45, v53] : Fin 2 → IVec S16 32) a x).toNat < S4x4096.size a := fun v45 v53 k0_hw20 => k0_hw20
def k0_off27 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c4_i32_29 : BitVec 32 := 4#32
  let v46 : BitVec 32 := Scalar.muli v11 c4_i32_29
  let c2_i32_30 : BitVec 32 := 2#32
  let v47 : BitVec 32 := Scalar.addi v46 c2_i32_30
  let v56 : Index := Scalar.indexCast v47
  let c32_35 : Index := 32#32
  ![v56.toNat, 32]

def k0_chk21 (v45 : IVec S16 32) (v57 : IVec S16 32) : Prop :=
  (∀ a x, ((![v45, v57] : Fin 2 → IVec S16 32) a x).toNat < S4x4096.size a)
theorem k0_idx21_inb : ∀ (v45 : IVec S16 32) (v57 : IVec S16 32) (k0_hw21 : k0_chk21 v45 v57), ∀ a x, ((![v45, v57] : Fin 2 → IVec S16 32) a x).toNat < S4x4096.size a := fun v45 v57 k0_hw21 => k0_hw21
def k0_off28 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c4_i32_37 : BitVec 32 := 4#32
  let v61 : BitVec 32 := Scalar.muli v11 c4_i32_37
  let c3_i32_38 : BitVec 32 := 3#32
  let v62 : BitVec 32 := Scalar.addi v61 c3_i32_38
  let v63 : Index := Scalar.indexCast v62
  let c0_39 : Index := 0#32
  ![v63.toNat, 0]

def k0_chk22 (v60 : IVec S16 32) (v64 : IVec S16 32) : Prop :=
  (∀ a x, ((![v60, v64] : Fin 2 → IVec S16 32) a x).toNat < S4x4096.size a)
theorem k0_idx22_inb : ∀ (v60 : IVec S16 32) (v64 : IVec S16 32) (k0_hw22 : k0_chk22 v60 v64), ∀ a x, ((![v60, v64] : Fin 2 → IVec S16 32) a x).toNat < S4x4096.size a := fun v60 v64 k0_hw22 => k0_hw22
def k0_off29 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c4_i32_37 : BitVec 32 := 4#32
  let v61 : BitVec 32 := Scalar.muli v11 c4_i32_37
  let c3_i32_38 : BitVec 32 := 3#32
  let v62 : BitVec 32 := Scalar.addi v61 c3_i32_38
  let v67 : Index := Scalar.indexCast v62
  let c16_41 : Index := 16#32
  ![v67.toNat, 16]

def k0_chk23 (v60 : IVec S16 32) (v68 : IVec S16 32) : Prop :=
  (∀ a x, ((![v60, v68] : Fin 2 → IVec S16 32) a x).toNat < S4x4096.size a)
theorem k0_idx23_inb : ∀ (v60 : IVec S16 32) (v68 : IVec S16 32) (k0_hw23 : k0_chk23 v60 v68), ∀ a x, ((![v60, v68] : Fin 2 → IVec S16 32) a x).toNat < S4x4096.size a := fun v60 v68 k0_hw23 => k0_hw23
def k0_off30 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c4_i32_37 : BitVec 32 := 4#32
  let v61 : BitVec 32 := Scalar.muli v11 c4_i32_37
  let c3_i32_38 : BitVec 32 := 3#32
  let v62 : BitVec 32 := Scalar.addi v61 c3_i32_38
  let v71 : Index := Scalar.indexCast v62
  let c32_43 : Index := 32#32
  ![v71.toNat, 32]

def k0_chk24 (v60 : IVec S16 32) (v72 : IVec S16 32) : Prop :=
  (∀ a x, ((![v60, v72] : Fin 2 → IVec S16 32) a x).toNat < S4x4096.size a)
theorem k0_idx24_inb : ∀ (v60 : IVec S16 32) (v72 : IVec S16 32) (k0_hw24 : k0_chk24 v60 v72), ∀ a x, ((![v60, v72] : Fin 2 → IVec S16 32) a x).toNat < S4x4096.size a := fun v60 v72 k0_hw24 => k0_hw24
def k0_off31 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3 : BitVec 32 := 0#32
  let c1_i32_4 : BitVec 32 := 1#32
  let arg11 : BitVec 32 := Scf.iv c0_i32_3 c1_i32_4 k0_t2
  let c2_i32_10 : BitVec 32 := 2#32
  let v10 : BitVec 32 := Scalar.muli arg11 c2_i32_10
  let c0_i32_11 : BitVec 32 := 0#32
  let v11 : BitVec 32 := Scalar.addi v10 c0_i32_11
  let c4_i32_45 : BitVec 32 := 4#32
  let v75 : BitVec 32 := Scalar.muli v11 c4_i32_45
  let v76 : BitVec 32 := Scalar.addi v2 v75
  let c0_i32_46 : BitVec 32 := 0#32
  ![v76.toNat, 0]
def k0_cond2 (k0_t2 : Fin k0_t2_loop.trips) : BitVec 1 :=
  let c0_i32_3 : BitVec 32 := 0#32
  let c1_i32_4 : BitVec 32 := 1#32
  let arg11 : BitVec 32 := Scf.iv c0_i32_3 c1_i32_4 k0_t2
  let c0_i32_50 : BitVec 32 := 0#32
  let v81 : BitVec 1 := Scalar.cmpi .sgt arg11 c0_i32_50
  let v82 : BitVec 32 := Scalar.extui v81
  let c0_i32_51 : BitVec 32 := 0#32
  let v83 : BitVec 1 := Scalar.cmpi .ne v82 c0_i32_51
  v83

def k0_off32 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_91 : BitVec 32 := 0#32
  ![v2.toNat, 0]
def k0_off33 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c2_i32_94 : BitVec 32 := 2#32
  let v151 : BitVec 32 := Scalar.subi v80 c2_i32_94
  let c4_i32_95 : BitVec 32 := 4#32
  let v152 : BitVec 32 := Scalar.muli v151 c4_i32_95
  let c0_i32_96 : BitVec 32 := 0#32
  let v153 : BitVec 32 := Scalar.addi v152 c0_i32_96
  let v154 : Index := Scalar.indexCast v153
  let c0_97 : Index := 0#32
  ![v154.toNat, 0]

def k0_chk25 (k0_t2 : Fin k0_t2_loop.trips) (v150 : IVec S16 32) (v155 : IVec S16 32) : Prop :=
  (∀ (k0_h2 : k0_cond2 k0_t2 = 1#1), ∀ a x, ((![v150, v155] : Fin 2 → IVec S16 32) a x).toNat < S4x4096.size a)
theorem k0_idx25_inb : ∀ (k0_t2 : Fin k0_t2_loop.trips) (v150 : IVec S16 32) (v155 : IVec S16 32) (k0_hw25 : k0_chk25 k0_t2 v150 v155), ∀ (k0_h2 : k0_cond2 k0_t2 = 1#1), ∀ a x, ((![v150, v155] : Fin 2 → IVec S16 32) a x).toNat < S4x4096.size a := fun k0_t2 v150 v155 k0_hw25 k0_h2 => k0_hw25 k0_h2
def k0_off34 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c2_i32_94 : BitVec 32 := 2#32
  let v151 : BitVec 32 := Scalar.subi v80 c2_i32_94
  let c4_i32_95 : BitVec 32 := 4#32
  let v152 : BitVec 32 := Scalar.muli v151 c4_i32_95
  let c0_i32_96 : BitVec 32 := 0#32
  let v153 : BitVec 32 := Scalar.addi v152 c0_i32_96
  let v156 : Index := Scalar.indexCast v153
  let c16_98 : Index := 16#32
  ![v156.toNat, 16]

def k0_chk26 (k0_t2 : Fin k0_t2_loop.trips) (v150 : IVec S16 32) (v157 : IVec S16 32) : Prop :=
  (∀ (k0_h2 : k0_cond2 k0_t2 = 1#1), ∀ a x, ((![v150, v157] : Fin 2 → IVec S16 32) a x).toNat < S4x4096.size a)
theorem k0_idx26_inb : ∀ (k0_t2 : Fin k0_t2_loop.trips) (v150 : IVec S16 32) (v157 : IVec S16 32) (k0_hw26 : k0_chk26 k0_t2 v150 v157), ∀ (k0_h2 : k0_cond2 k0_t2 = 1#1), ∀ a x, ((![v150, v157] : Fin 2 → IVec S16 32) a x).toNat < S4x4096.size a := fun k0_t2 v150 v157 k0_hw26 k0_h2 => k0_hw26 k0_h2
def k0_off35 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c2_i32_94 : BitVec 32 := 2#32
  let v151 : BitVec 32 := Scalar.subi v80 c2_i32_94
  let c4_i32_95 : BitVec 32 := 4#32
  let v152 : BitVec 32 := Scalar.muli v151 c4_i32_95
  let c0_i32_96 : BitVec 32 := 0#32
  let v153 : BitVec 32 := Scalar.addi v152 c0_i32_96
  let v158 : Index := Scalar.indexCast v153
  let c32_99 : Index := 32#32
  ![v158.toNat, 32]

def k0_chk27 (k0_t2 : Fin k0_t2_loop.trips) (v150 : IVec S16 32) (v159 : IVec S16 32) : Prop :=
  (∀ (k0_h2 : k0_cond2 k0_t2 = 1#1), ∀ a x, ((![v150, v159] : Fin 2 → IVec S16 32) a x).toNat < S4x4096.size a)
theorem k0_idx27_inb : ∀ (k0_t2 : Fin k0_t2_loop.trips) (v150 : IVec S16 32) (v159 : IVec S16 32) (k0_hw27 : k0_chk27 k0_t2 v150 v159), ∀ (k0_h2 : k0_cond2 k0_t2 = 1#1), ∀ a x, ((![v150, v159] : Fin 2 → IVec S16 32) a x).toNat < S4x4096.size a := fun k0_t2 v150 v159 k0_hw27 k0_h2 => k0_hw27 k0_h2
def k0_off36 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c2_i32_101 : BitVec 32 := 2#32
  let v161 : BitVec 32 := Scalar.subi v80 c2_i32_101
  let c4_i32_102 : BitVec 32 := 4#32
  let v162 : BitVec 32 := Scalar.muli v161 c4_i32_102
  let c1_i32_103 : BitVec 32 := 1#32
  let v163 : BitVec 32 := Scalar.addi v162 c1_i32_103
  let v164 : Index := Scalar.indexCast v163
  let c0_104 : Index := 0#32
  ![v164.toNat, 0]

def k0_chk28 (k0_t2 : Fin k0_t2_loop.trips) (v160 : IVec S16 32) (v165 : IVec S16 32) : Prop :=
  (∀ (k0_h2 : k0_cond2 k0_t2 = 1#1), ∀ a x, ((![v160, v165] : Fin 2 → IVec S16 32) a x).toNat < S4x4096.size a)
theorem k0_idx28_inb : ∀ (k0_t2 : Fin k0_t2_loop.trips) (v160 : IVec S16 32) (v165 : IVec S16 32) (k0_hw28 : k0_chk28 k0_t2 v160 v165), ∀ (k0_h2 : k0_cond2 k0_t2 = 1#1), ∀ a x, ((![v160, v165] : Fin 2 → IVec S16 32) a x).toNat < S4x4096.size a := fun k0_t2 v160 v165 k0_hw28 k0_h2 => k0_hw28 k0_h2
def k0_off37 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c2_i32_101 : BitVec 32 := 2#32
  let v161 : BitVec 32 := Scalar.subi v80 c2_i32_101
  let c4_i32_102 : BitVec 32 := 4#32
  let v162 : BitVec 32 := Scalar.muli v161 c4_i32_102
  let c1_i32_103 : BitVec 32 := 1#32
  let v163 : BitVec 32 := Scalar.addi v162 c1_i32_103
  let v166 : Index := Scalar.indexCast v163
  let c16_105 : Index := 16#32
  ![v166.toNat, 16]

def k0_chk29 (k0_t2 : Fin k0_t2_loop.trips) (v160 : IVec S16 32) (v167 : IVec S16 32) : Prop :=
  (∀ (k0_h2 : k0_cond2 k0_t2 = 1#1), ∀ a x, ((![v160, v167] : Fin 2 → IVec S16 32) a x).toNat < S4x4096.size a)
theorem k0_idx29_inb : ∀ (k0_t2 : Fin k0_t2_loop.trips) (v160 : IVec S16 32) (v167 : IVec S16 32) (k0_hw29 : k0_chk29 k0_t2 v160 v167), ∀ (k0_h2 : k0_cond2 k0_t2 = 1#1), ∀ a x, ((![v160, v167] : Fin 2 → IVec S16 32) a x).toNat < S4x4096.size a := fun k0_t2 v160 v167 k0_hw29 k0_h2 => k0_hw29 k0_h2
def k0_off38 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c2_i32_101 : BitVec 32 := 2#32
  let v161 : BitVec 32 := Scalar.subi v80 c2_i32_101
  let c4_i32_102 : BitVec 32 := 4#32
  let v162 : BitVec 32 := Scalar.muli v161 c4_i32_102
  let c1_i32_103 : BitVec 32 := 1#32
  let v163 : BitVec 32 := Scalar.addi v162 c1_i32_103
  let v168 : Index := Scalar.indexCast v163
  let c32_106 : Index := 32#32
  ![v168.toNat, 32]

def k0_chk30 (k0_t2 : Fin k0_t2_loop.trips) (v160 : IVec S16 32) (v169 : IVec S16 32) : Prop :=
  (∀ (k0_h2 : k0_cond2 k0_t2 = 1#1), ∀ a x, ((![v160, v169] : Fin 2 → IVec S16 32) a x).toNat < S4x4096.size a)
theorem k0_idx30_inb : ∀ (k0_t2 : Fin k0_t2_loop.trips) (v160 : IVec S16 32) (v169 : IVec S16 32) (k0_hw30 : k0_chk30 k0_t2 v160 v169), ∀ (k0_h2 : k0_cond2 k0_t2 = 1#1), ∀ a x, ((![v160, v169] : Fin 2 → IVec S16 32) a x).toNat < S4x4096.size a := fun k0_t2 v160 v169 k0_hw30 k0_h2 => k0_hw30 k0_h2
def k0_off39 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c2_i32_108 : BitVec 32 := 2#32
  let v171 : BitVec 32 := Scalar.subi v80 c2_i32_108
  let c4_i32_109 : BitVec 32 := 4#32
  let v172 : BitVec 32 := Scalar.muli v171 c4_i32_109
  let c2_i32_110 : BitVec 32 := 2#32
  let v173 : BitVec 32 := Scalar.addi v172 c2_i32_110
  let v174 : Index := Scalar.indexCast v173
  let c0_111 : Index := 0#32
  ![v174.toNat, 0]

def k0_chk31 (k0_t2 : Fin k0_t2_loop.trips) (v170 : IVec S16 32) (v175 : IVec S16 32) : Prop :=
  (∀ (k0_h2 : k0_cond2 k0_t2 = 1#1), ∀ a x, ((![v170, v175] : Fin 2 → IVec S16 32) a x).toNat < S4x4096.size a)
theorem k0_idx31_inb : ∀ (k0_t2 : Fin k0_t2_loop.trips) (v170 : IVec S16 32) (v175 : IVec S16 32) (k0_hw31 : k0_chk31 k0_t2 v170 v175), ∀ (k0_h2 : k0_cond2 k0_t2 = 1#1), ∀ a x, ((![v170, v175] : Fin 2 → IVec S16 32) a x).toNat < S4x4096.size a := fun k0_t2 v170 v175 k0_hw31 k0_h2 => k0_hw31 k0_h2
def k0_off40 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c2_i32_108 : BitVec 32 := 2#32
  let v171 : BitVec 32 := Scalar.subi v80 c2_i32_108
  let c4_i32_109 : BitVec 32 := 4#32
  let v172 : BitVec 32 := Scalar.muli v171 c4_i32_109
  let c2_i32_110 : BitVec 32 := 2#32
  let v173 : BitVec 32 := Scalar.addi v172 c2_i32_110
  let v176 : Index := Scalar.indexCast v173
  let c16_112 : Index := 16#32
  ![v176.toNat, 16]

def k0_chk32 (k0_t2 : Fin k0_t2_loop.trips) (v170 : IVec S16 32) (v177 : IVec S16 32) : Prop :=
  (∀ (k0_h2 : k0_cond2 k0_t2 = 1#1), ∀ a x, ((![v170, v177] : Fin 2 → IVec S16 32) a x).toNat < S4x4096.size a)
theorem k0_idx32_inb : ∀ (k0_t2 : Fin k0_t2_loop.trips) (v170 : IVec S16 32) (v177 : IVec S16 32) (k0_hw32 : k0_chk32 k0_t2 v170 v177), ∀ (k0_h2 : k0_cond2 k0_t2 = 1#1), ∀ a x, ((![v170, v177] : Fin 2 → IVec S16 32) a x).toNat < S4x4096.size a := fun k0_t2 v170 v177 k0_hw32 k0_h2 => k0_hw32 k0_h2
def k0_off41 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c2_i32_108 : BitVec 32 := 2#32
  let v171 : BitVec 32 := Scalar.subi v80 c2_i32_108
  let c4_i32_109 : BitVec 32 := 4#32
  let v172 : BitVec 32 := Scalar.muli v171 c4_i32_109
  let c2_i32_110 : BitVec 32 := 2#32
  let v173 : BitVec 32 := Scalar.addi v172 c2_i32_110
  let v178 : Index := Scalar.indexCast v173
  let c32_113 : Index := 32#32
  ![v178.toNat, 32]

def k0_chk33 (k0_t2 : Fin k0_t2_loop.trips) (v170 : IVec S16 32) (v179 : IVec S16 32) : Prop :=
  (∀ (k0_h2 : k0_cond2 k0_t2 = 1#1), ∀ a x, ((![v170, v179] : Fin 2 → IVec S16 32) a x).toNat < S4x4096.size a)
theorem k0_idx33_inb : ∀ (k0_t2 : Fin k0_t2_loop.trips) (v170 : IVec S16 32) (v179 : IVec S16 32) (k0_hw33 : k0_chk33 k0_t2 v170 v179), ∀ (k0_h2 : k0_cond2 k0_t2 = 1#1), ∀ a x, ((![v170, v179] : Fin 2 → IVec S16 32) a x).toNat < S4x4096.size a := fun k0_t2 v170 v179 k0_hw33 k0_h2 => k0_hw33 k0_h2
def k0_off42 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c2_i32_115 : BitVec 32 := 2#32
  let v181 : BitVec 32 := Scalar.subi v80 c2_i32_115
  let c4_i32_116 : BitVec 32 := 4#32
  let v182 : BitVec 32 := Scalar.muli v181 c4_i32_116
  let c3_i32_117 : BitVec 32 := 3#32
  let v183 : BitVec 32 := Scalar.addi v182 c3_i32_117
  let v184 : Index := Scalar.indexCast v183
  let c0_118 : Index := 0#32
  ![v184.toNat, 0]

def k0_chk34 (k0_t2 : Fin k0_t2_loop.trips) (v180 : IVec S16 32) (v185 : IVec S16 32) : Prop :=
  (∀ (k0_h2 : k0_cond2 k0_t2 = 1#1), ∀ a x, ((![v180, v185] : Fin 2 → IVec S16 32) a x).toNat < S4x4096.size a)
theorem k0_idx34_inb : ∀ (k0_t2 : Fin k0_t2_loop.trips) (v180 : IVec S16 32) (v185 : IVec S16 32) (k0_hw34 : k0_chk34 k0_t2 v180 v185), ∀ (k0_h2 : k0_cond2 k0_t2 = 1#1), ∀ a x, ((![v180, v185] : Fin 2 → IVec S16 32) a x).toNat < S4x4096.size a := fun k0_t2 v180 v185 k0_hw34 k0_h2 => k0_hw34 k0_h2
def k0_off43 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c2_i32_115 : BitVec 32 := 2#32
  let v181 : BitVec 32 := Scalar.subi v80 c2_i32_115
  let c4_i32_116 : BitVec 32 := 4#32
  let v182 : BitVec 32 := Scalar.muli v181 c4_i32_116
  let c3_i32_117 : BitVec 32 := 3#32
  let v183 : BitVec 32 := Scalar.addi v182 c3_i32_117
  let v186 : Index := Scalar.indexCast v183
  let c16_119 : Index := 16#32
  ![v186.toNat, 16]

def k0_chk35 (k0_t2 : Fin k0_t2_loop.trips) (v180 : IVec S16 32) (v187 : IVec S16 32) : Prop :=
  (∀ (k0_h2 : k0_cond2 k0_t2 = 1#1), ∀ a x, ((![v180, v187] : Fin 2 → IVec S16 32) a x).toNat < S4x4096.size a)
theorem k0_idx35_inb : ∀ (k0_t2 : Fin k0_t2_loop.trips) (v180 : IVec S16 32) (v187 : IVec S16 32) (k0_hw35 : k0_chk35 k0_t2 v180 v187), ∀ (k0_h2 : k0_cond2 k0_t2 = 1#1), ∀ a x, ((![v180, v187] : Fin 2 → IVec S16 32) a x).toNat < S4x4096.size a := fun k0_t2 v180 v187 k0_hw35 k0_h2 => k0_hw35 k0_h2
def k0_off44 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c2_i32_115 : BitVec 32 := 2#32
  let v181 : BitVec 32 := Scalar.subi v80 c2_i32_115
  let c4_i32_116 : BitVec 32 := 4#32
  let v182 : BitVec 32 := Scalar.muli v181 c4_i32_116
  let c3_i32_117 : BitVec 32 := 3#32
  let v183 : BitVec 32 := Scalar.addi v182 c3_i32_117
  let v188 : Index := Scalar.indexCast v183
  let c32_120 : Index := 32#32
  ![v188.toNat, 32]

def k0_chk36 (k0_t2 : Fin k0_t2_loop.trips) (v180 : IVec S16 32) (v189 : IVec S16 32) : Prop :=
  (∀ (k0_h2 : k0_cond2 k0_t2 = 1#1), ∀ a x, ((![v180, v189] : Fin 2 → IVec S16 32) a x).toNat < S4x4096.size a)
theorem k0_idx36_inb : ∀ (k0_t2 : Fin k0_t2_loop.trips) (v180 : IVec S16 32) (v189 : IVec S16 32) (k0_hw36 : k0_chk36 k0_t2 v180 v189), ∀ (k0_h2 : k0_cond2 k0_t2 = 1#1), ∀ a x, ((![v180, v189] : Fin 2 → IVec S16 32) a x).toNat < S4x4096.size a := fun k0_t2 v180 v189 k0_hw36 k0_h2 => k0_hw36 k0_h2
def k0_off45 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c4_i32_53 : BitVec 32 := 4#32
  let v85 : BitVec 32 := Scalar.muli v80 c4_i32_53
  let c0_i32_54 : BitVec 32 := 0#32
  let v86 : BitVec 32 := Scalar.addi v85 c0_i32_54
  let v87 : Index := Scalar.indexCast v86
  let c0_55 : Index := 0#32
  ![v87.toNat, 0]

def k0_chk37 (v84 : IVec S16 32) (v88 : IVec S16 32) : Prop :=
  (∀ a x, ((![v84, v88] : Fin 2 → IVec S16 32) a x).toNat < S4x4096.size a)
theorem k0_idx37_inb : ∀ (v84 : IVec S16 32) (v88 : IVec S16 32) (k0_hw37 : k0_chk37 v84 v88), ∀ a x, ((![v84, v88] : Fin 2 → IVec S16 32) a x).toNat < S4x4096.size a := fun v84 v88 k0_hw37 => k0_hw37
def k0_off46 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c4_i32_53 : BitVec 32 := 4#32
  let v85 : BitVec 32 := Scalar.muli v80 c4_i32_53
  let c0_i32_54 : BitVec 32 := 0#32
  let v86 : BitVec 32 := Scalar.addi v85 c0_i32_54
  let v91 : Index := Scalar.indexCast v86
  let c16_57 : Index := 16#32
  ![v91.toNat, 16]

def k0_chk38 (v84 : IVec S16 32) (v92 : IVec S16 32) : Prop :=
  (∀ a x, ((![v84, v92] : Fin 2 → IVec S16 32) a x).toNat < S4x4096.size a)
theorem k0_idx38_inb : ∀ (v84 : IVec S16 32) (v92 : IVec S16 32) (k0_hw38 : k0_chk38 v84 v92), ∀ a x, ((![v84, v92] : Fin 2 → IVec S16 32) a x).toNat < S4x4096.size a := fun v84 v92 k0_hw38 => k0_hw38
def k0_off47 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c4_i32_53 : BitVec 32 := 4#32
  let v85 : BitVec 32 := Scalar.muli v80 c4_i32_53
  let c0_i32_54 : BitVec 32 := 0#32
  let v86 : BitVec 32 := Scalar.addi v85 c0_i32_54
  let v95 : Index := Scalar.indexCast v86
  let c32_59 : Index := 32#32
  ![v95.toNat, 32]

def k0_chk39 (v84 : IVec S16 32) (v96 : IVec S16 32) : Prop :=
  (∀ a x, ((![v84, v96] : Fin 2 → IVec S16 32) a x).toNat < S4x4096.size a)
theorem k0_idx39_inb : ∀ (v84 : IVec S16 32) (v96 : IVec S16 32) (k0_hw39 : k0_chk39 v84 v96), ∀ a x, ((![v84, v96] : Fin 2 → IVec S16 32) a x).toNat < S4x4096.size a := fun v84 v96 k0_hw39 => k0_hw39
def k0_off48 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c4_i32_62 : BitVec 32 := 4#32
  let v100 : BitVec 32 := Scalar.muli v80 c4_i32_62
  let c1_i32_63 : BitVec 32 := 1#32
  let v101 : BitVec 32 := Scalar.addi v100 c1_i32_63
  let v102 : Index := Scalar.indexCast v101
  let c0_64 : Index := 0#32
  ![v102.toNat, 0]

def k0_chk40 (v99 : IVec S16 32) (v103 : IVec S16 32) : Prop :=
  (∀ a x, ((![v99, v103] : Fin 2 → IVec S16 32) a x).toNat < S4x4096.size a)
theorem k0_idx40_inb : ∀ (v99 : IVec S16 32) (v103 : IVec S16 32) (k0_hw40 : k0_chk40 v99 v103), ∀ a x, ((![v99, v103] : Fin 2 → IVec S16 32) a x).toNat < S4x4096.size a := fun v99 v103 k0_hw40 => k0_hw40
def k0_off49 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c4_i32_62 : BitVec 32 := 4#32
  let v100 : BitVec 32 := Scalar.muli v80 c4_i32_62
  let c1_i32_63 : BitVec 32 := 1#32
  let v101 : BitVec 32 := Scalar.addi v100 c1_i32_63
  let v106 : Index := Scalar.indexCast v101
  let c16_66 : Index := 16#32
  ![v106.toNat, 16]

def k0_chk41 (v99 : IVec S16 32) (v107 : IVec S16 32) : Prop :=
  (∀ a x, ((![v99, v107] : Fin 2 → IVec S16 32) a x).toNat < S4x4096.size a)
theorem k0_idx41_inb : ∀ (v99 : IVec S16 32) (v107 : IVec S16 32) (k0_hw41 : k0_chk41 v99 v107), ∀ a x, ((![v99, v107] : Fin 2 → IVec S16 32) a x).toNat < S4x4096.size a := fun v99 v107 k0_hw41 => k0_hw41
def k0_off50 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c4_i32_62 : BitVec 32 := 4#32
  let v100 : BitVec 32 := Scalar.muli v80 c4_i32_62
  let c1_i32_63 : BitVec 32 := 1#32
  let v101 : BitVec 32 := Scalar.addi v100 c1_i32_63
  let v110 : Index := Scalar.indexCast v101
  let c32_68 : Index := 32#32
  ![v110.toNat, 32]

def k0_chk42 (v99 : IVec S16 32) (v111 : IVec S16 32) : Prop :=
  (∀ a x, ((![v99, v111] : Fin 2 → IVec S16 32) a x).toNat < S4x4096.size a)
theorem k0_idx42_inb : ∀ (v99 : IVec S16 32) (v111 : IVec S16 32) (k0_hw42 : k0_chk42 v99 v111), ∀ a x, ((![v99, v111] : Fin 2 → IVec S16 32) a x).toNat < S4x4096.size a := fun v99 v111 k0_hw42 => k0_hw42
def k0_off51 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c4_i32_71 : BitVec 32 := 4#32
  let v115 : BitVec 32 := Scalar.muli v80 c4_i32_71
  let c2_i32_72 : BitVec 32 := 2#32
  let v116 : BitVec 32 := Scalar.addi v115 c2_i32_72
  let v117 : Index := Scalar.indexCast v116
  let c0_73 : Index := 0#32
  ![v117.toNat, 0]

def k0_chk43 (v114 : IVec S16 32) (v118 : IVec S16 32) : Prop :=
  (∀ a x, ((![v114, v118] : Fin 2 → IVec S16 32) a x).toNat < S4x4096.size a)
theorem k0_idx43_inb : ∀ (v114 : IVec S16 32) (v118 : IVec S16 32) (k0_hw43 : k0_chk43 v114 v118), ∀ a x, ((![v114, v118] : Fin 2 → IVec S16 32) a x).toNat < S4x4096.size a := fun v114 v118 k0_hw43 => k0_hw43
def k0_off52 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c4_i32_71 : BitVec 32 := 4#32
  let v115 : BitVec 32 := Scalar.muli v80 c4_i32_71
  let c2_i32_72 : BitVec 32 := 2#32
  let v116 : BitVec 32 := Scalar.addi v115 c2_i32_72
  let v121 : Index := Scalar.indexCast v116
  let c16_75 : Index := 16#32
  ![v121.toNat, 16]

def k0_chk44 (v114 : IVec S16 32) (v122 : IVec S16 32) : Prop :=
  (∀ a x, ((![v114, v122] : Fin 2 → IVec S16 32) a x).toNat < S4x4096.size a)
theorem k0_idx44_inb : ∀ (v114 : IVec S16 32) (v122 : IVec S16 32) (k0_hw44 : k0_chk44 v114 v122), ∀ a x, ((![v114, v122] : Fin 2 → IVec S16 32) a x).toNat < S4x4096.size a := fun v114 v122 k0_hw44 => k0_hw44
def k0_off53 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c4_i32_71 : BitVec 32 := 4#32
  let v115 : BitVec 32 := Scalar.muli v80 c4_i32_71
  let c2_i32_72 : BitVec 32 := 2#32
  let v116 : BitVec 32 := Scalar.addi v115 c2_i32_72
  let v125 : Index := Scalar.indexCast v116
  let c32_77 : Index := 32#32
  ![v125.toNat, 32]

def k0_chk45 (v114 : IVec S16 32) (v126 : IVec S16 32) : Prop :=
  (∀ a x, ((![v114, v126] : Fin 2 → IVec S16 32) a x).toNat < S4x4096.size a)
theorem k0_idx45_inb : ∀ (v114 : IVec S16 32) (v126 : IVec S16 32) (k0_hw45 : k0_chk45 v114 v126), ∀ a x, ((![v114, v126] : Fin 2 → IVec S16 32) a x).toNat < S4x4096.size a := fun v114 v126 k0_hw45 => k0_hw45
def k0_off54 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c4_i32_80 : BitVec 32 := 4#32
  let v130 : BitVec 32 := Scalar.muli v80 c4_i32_80
  let c3_i32_81 : BitVec 32 := 3#32
  let v131 : BitVec 32 := Scalar.addi v130 c3_i32_81
  let v132 : Index := Scalar.indexCast v131
  let c0_82 : Index := 0#32
  ![v132.toNat, 0]

def k0_chk46 (v129 : IVec S16 32) (v133 : IVec S16 32) : Prop :=
  (∀ a x, ((![v129, v133] : Fin 2 → IVec S16 32) a x).toNat < S4x4096.size a)
theorem k0_idx46_inb : ∀ (v129 : IVec S16 32) (v133 : IVec S16 32) (k0_hw46 : k0_chk46 v129 v133), ∀ a x, ((![v129, v133] : Fin 2 → IVec S16 32) a x).toNat < S4x4096.size a := fun v129 v133 k0_hw46 => k0_hw46
def k0_off55 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c4_i32_80 : BitVec 32 := 4#32
  let v130 : BitVec 32 := Scalar.muli v80 c4_i32_80
  let c3_i32_81 : BitVec 32 := 3#32
  let v131 : BitVec 32 := Scalar.addi v130 c3_i32_81
  let v136 : Index := Scalar.indexCast v131
  let c16_84 : Index := 16#32
  ![v136.toNat, 16]

def k0_chk47 (v129 : IVec S16 32) (v137 : IVec S16 32) : Prop :=
  (∀ a x, ((![v129, v137] : Fin 2 → IVec S16 32) a x).toNat < S4x4096.size a)
theorem k0_idx47_inb : ∀ (v129 : IVec S16 32) (v137 : IVec S16 32) (k0_hw47 : k0_chk47 v129 v137), ∀ a x, ((![v129, v137] : Fin 2 → IVec S16 32) a x).toNat < S4x4096.size a := fun v129 v137 k0_hw47 => k0_hw47
def k0_off56 (k0_t2 : Fin k0_t2_loop.trips) : Fin 2 → Nat :=
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c4_i32_80 : BitVec 32 := 4#32
  let v130 : BitVec 32 := Scalar.muli v80 c4_i32_80
  let c3_i32_81 : BitVec 32 := 3#32
  let v131 : BitVec 32 := Scalar.addi v130 c3_i32_81
  let v140 : Index := Scalar.indexCast v131
  let c32_86 : Index := 32#32
  ![v140.toNat, 32]

def k0_chk48 (v129 : IVec S16 32) (v141 : IVec S16 32) : Prop :=
  (∀ a x, ((![v129, v141] : Fin 2 → IVec S16 32) a x).toNat < S4x4096.size a)
theorem k0_idx48_inb : ∀ (v129 : IVec S16 32) (v141 : IVec S16 32) (k0_hw48 : k0_chk48 v129 v141), ∀ a x, ((![v129, v141] : Fin 2 → IVec S16 32) a x).toNat < S4x4096.size a := fun v129 v141 k0_hw48 => k0_hw48
def k0_off57 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3 : BitVec 32 := 0#32
  let c1_i32_4 : BitVec 32 := 1#32
  let arg11 : BitVec 32 := Scf.iv c0_i32_3 c1_i32_4 k0_t2
  let c2_i32_48 : BitVec 32 := 2#32
  let v79 : BitVec 32 := Scalar.muli arg11 c2_i32_48
  let c1_i32_49 : BitVec 32 := 1#32
  let v80 : BitVec 32 := Scalar.addi v79 c1_i32_49
  let c4_i32_88 : BitVec 32 := 4#32
  let v144 : BitVec 32 := Scalar.muli v80 c4_i32_88
  let v145 : BitVec 32 := Scalar.addi v2 v144
  let c0_i32_89 : BitVec 32 := 0#32
  ![v145.toNat, 0]
def k0_off58 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_6 : BitVec 32 := 0#32
  ![v2.toNat, 0]
abbrev grid1 : Pipeline.Grid := ⟨1, ![8], ![false]⟩

def k1_off1 (i : grid1.Coords) : Fin 1 → Nat :=
  let arg0 : BitVec 32 := BitVec.ofNat 32 (i 0).val
  let c512_i32 : BitVec 32 := 512#32
  let v4 : BitVec 32 := Scalar.muli arg0 c512_i32
  let v5 : Index := Scalar.indexCast v4
  ![v5.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S256x4096 : Shape := ⟨2, ![256, 4096]⟩
abbrev S4096x41 : Shape := ⟨2, ![4096, 41]⟩
abbrev S4096 : Shape := ⟨1, ![4096]⟩
abbrev S_ : Shape := ⟨0, ![]⟩
abbrev S4096x41x1 : Shape := ⟨3, ![4096, 41, 1]⟩
abbrev S1 : Shape := ⟨1, ![1]⟩
abbrev S1x1x1 : Shape := ⟨3, ![1, 1, 1]⟩
abbrev S256x4096x41 : Shape := ⟨3, ![256, 4096, 41]⟩
abbrev S4096x256 : Shape := ⟨2, ![4096, 256]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096x41, .f32⟩
  | .hbm, ⟨2, _⟩ => ⟨S4096x41, .i32⟩
  | .hbm, ⟨3, _⟩ => ⟨S4096, .f32⟩
  | .hbm, ⟨4, _⟩ => ⟨S_, .i32⟩
  | .hbm, ⟨5, _⟩ => ⟨S4096x41, .i32⟩
  | .hbm, ⟨6, _⟩ => ⟨S4096x41, .i1⟩
  | .hbm, ⟨7, _⟩ => ⟨S_, .i32⟩
  | .hbm, ⟨8, _⟩ => ⟨S4096x41, .i32⟩
  | .hbm, ⟨9, _⟩ => ⟨S4096x41, .i32⟩
  | .hbm, ⟨10, _⟩ => ⟨S4096x41, .i32⟩
  | .hbm, ⟨11, _⟩ => ⟨S4096x41x1, .i32⟩
  | .hbm, ⟨12, _⟩ => ⟨S1, .i32⟩
  | .hbm, ⟨13, _⟩ => ⟨S_, .i32⟩
  | .hbm, ⟨14, _⟩ => ⟨S4096x41x1, .i32⟩
  | .hbm, ⟨15, _⟩ => ⟨S4096x41x1, .i1⟩
  | .hbm, ⟨16, _⟩ => ⟨S1x1x1, .i32⟩
  | .hbm, ⟨17, _⟩ => ⟨S4096x41x1, .i32⟩
  | .hbm, ⟨18, _⟩ => ⟨S4096x41x1, .i1⟩
  | .hbm, ⟨19, _⟩ => ⟨S4096x41x1, .i1⟩
  | .hbm, ⟨20, _⟩ => ⟨S_, .i1⟩
  | .hbm, ⟨21, _⟩ => ⟨S4096x41, .i1⟩
  | .hbm, ⟨22, _⟩ => ⟨S256x4096x41, .f32⟩
  | .hbm, ⟨23, _⟩ => ⟨S256x4096x41, .i1⟩
  | .hbm, ⟨24, _⟩ => ⟨S_, .f32⟩
  | .hbm, ⟨25, _⟩ => ⟨S256x4096x41, .f32⟩
  | .hbm, ⟨26, _⟩ => ⟨S256x4096x41, .f32⟩
  | .hbm, ⟨27, _⟩ => ⟨S4096x256, .f32⟩
  | .hbm, ⟨28, _⟩ => ⟨S256x4096, .f32⟩
  | .hbm, ⟨29, _⟩ => ⟨S1x4096, .f32⟩
  | .hbm, ⟨30, _⟩ => ⟨S256x4096, .f32⟩
  | .hbm, ⟨31, _⟩ => ⟨S256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩

abbrev nD : Nat := 1
abbrev τ : Topo := Topo.v7x

variable {F : FTy → Type} [FloatOps F]
-- ==== Proof.Scatter.lean ====
/-
  The arithmetic of one SparseCore tile, with no program in it: what an indexed store of one 16-lane chunk does to a
  4 × 4096 buffer, what twelve of them (three chunks for each of four rows) leave there, and what the twelve clearing
  stores undo. `dense` is one element of the dense matrix: the 48 stored pairs of a row taken in order, each added on
  when its column is the one asked for.
-/
module

public import proofs.«01_k».proof.Defs
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic

variable {F : FTy → Type} [FloatOps F]

/-- The index of row `r`, column `k` of a tile's table of 128 rows. -/
def ixT (r k : ℕ) : S128x48.Idx :=
  fun | 0 => (Fin.ofNat 128 r : Fin 128) | 1 => (Fin.ofNat 48 k : Fin 48) | ⟨_ + 2, h⟩ => absurd h (Nat.not_lt.2 (Nat.le_add_left _ _))

/-- The index of row `n`, column `k` of the padded table of 4096 rows. -/
def ixH (n k : ℕ) : S4096x48.Idx :=
  fun | 0 => (Fin.ofNat 4096 n : Fin 4096) | 1 => (Fin.ofNat 48 k : Fin 48) | ⟨_ + 2, h⟩ => absurd h (Nat.not_lt.2 (Nat.le_add_left _ _))

/-- The float zero the buffers are cleared to. -/
def Z : F .f32 := Scalar.ofBits .f32 0x00000000#32

/-- One chunk of row `r` added onto `acc`, at column `m`: the sixteen lanes in order, each added when its column is `m`. -/
def putC (C : ℕ → ℕ → BitVec 32) (V : ℕ → ℕ → F .f32) (r ch m : ℕ) (acc : F .f32) : F .f32 :=
  (List.finRange 16).foldl (fun acc (l : Fin 16) => if (C r (16 * ch + l.val)).toNat = m then FloatOps.idxAddf acc (V r (16 * ch + l.val)) else acc) acc

/-- One element of the dense matrix: the three chunks of row `n`, from zero. -/
def dense (C : ℕ → ℕ → BitVec 32) (V : ℕ → ℕ → F .f32) (n m : ℕ) : F .f32 :=
  putC C V n 2 m (putC C V n 1 m (putC C V n 0 m Z))

/-- A 4 × 4096 buffer after chunk `ch` of row `r` has been added onto its row `g`. -/
def addC (C : ℕ → ℕ → BitVec 32) (V : ℕ → ℕ → F .f32) (r ch g : ℕ) (A : Vec F S4x4096 .f32) : Vec F S4x4096 .f32 :=
  fun j => if (j 0).val = g then putC C V r ch (j 1).val (A j) else A j

/-- A 4 × 4096 buffer after zero has been stored in its row `g` at the columns of chunk `ch` of row `r`. -/
def clearC (C : ℕ → ℕ → BitVec 32) (r ch g : ℕ) (A : Vec F S4x4096 .f32) : Vec F S4x4096 .f32 :=
  fun j => if (j 0).val = g ∧ ∃ l : Fin 16, (C r (16 * ch + l.val)).toNat = (j 1).val then Z else A j

/-- The buffer of zeros. -/
def zeros : Vec F S4x4096 .f32 := fun _ => Z

/-- The buffer holding the four dense rows from row `r`. -/
def filled (C : ℕ → ℕ → BitVec 32) (V : ℕ → ℕ → F .f32) (r : ℕ) : Vec F S4x4096 .f32 :=
  fun j => dense C V (r + (j 0).val) (j 1).val

/-- The twelve added chunks of four rows, in the kernel's order. -/
def addAll (C : ℕ → ℕ → BitVec 32) (V : ℕ → ℕ → F .f32) (r : ℕ) (A : Vec F S4x4096 .f32) : Vec F S4x4096 .f32 :=
  addC C V (r + 3) 2 3 (addC C V (r + 3) 1 3 (addC C V (r + 3) 0 3
    (addC C V (r + 2) 2 2 (addC C V (r + 2) 1 2 (addC C V (r + 2) 0 2
      (addC C V (r + 1) 2 1 (addC C V (r + 1) 1 1 (addC C V (r + 1) 0 1
        (addC C V r 2 0 (addC C V r 1 0 (addC C V r 0 0 A)))))))))))

/-- The twelve cleared chunks of four rows, in the kernel's order. -/
def clearAll (C : ℕ → ℕ → BitVec 32) (r : ℕ) (A : Vec F S4x4096 .f32) : Vec F S4x4096 .f32 :=
  clearC C (r + 3) 2 3 (clearC C (r + 3) 1 3 (clearC C (r + 3) 0 3
    (clearC C (r + 2) 2 2 (clearC C (r + 2) 1 2 (clearC C (r + 2) 0 2
      (clearC C (r + 1) 2 1 (clearC C (r + 1) 1 1 (clearC C (r + 1) 0 1
        (clearC C r 2 0 (clearC C r 1 0 (clearC C r 0 0 A)))))))))))

theorem lt4 (j : S4x4096.Idx) : (j 0).val = 0 ∨ (j 0).val = 1 ∨ (j 0).val = 2 ∨ (j 0).val = 3 := by
  have h : (j 0).val < 4 := (j 0).isLt
  omega

/-- From zeros, the twelve added chunks leave the four dense rows. -/
theorem addAll_zeros (C : ℕ → ℕ → BitVec 32) (V : ℕ → ℕ → F .f32) (r : ℕ) : addAll C V r zeros = filled C V r := by
  funext j
  rcases lt4 j with h | h | h | h <;> simp [addAll, addC, filled, dense, zeros, h]

/-- A column no lane of the chunk names is passed through. -/
theorem putC_of_not (C : ℕ → ℕ → BitVec 32) (V : ℕ → ℕ → F .f32) (r ch m : ℕ) (acc : F .f32)
    (h : ¬∃ l : Fin 16, (C r (16 * ch + l.val)).toNat = m) : putC C V r ch m acc = acc := by
  unfold putC
  have : ∀ L : List (Fin 16), L.foldl (fun acc (l : Fin 16) => if (C r (16 * ch + l.val)).toNat = m then FloatOps.idxAddf acc (V r (16 * ch + l.val)) else acc) acc = acc := by
    intro L
    induction L with
    | nil => rfl
    | cons a L ih =>
      rw [List.foldl_cons, if_neg fun e => h ⟨a, e⟩]; exact ih
  exact this _

/-- Clearing the columns of the rows that were added takes the four dense rows back to zeros. -/
theorem clearAll_filled (C : ℕ → ℕ → BitVec 32) (V : ℕ → ℕ → F .f32) (r : ℕ) : clearAll C r (filled C V r) = (zeros : Vec F S4x4096 .f32) := by
  funext j
  have key : ∀ n : ℕ, (∀ l : Fin 16, ¬(C n (32 + l.val)).toNat = (j 1).val) → (∀ l : Fin 16, ¬(C n (16 + l.val)).toNat = (j 1).val) →
      (∀ l : Fin 16, ¬(C n l.val).toNat = (j 1).val) → dense C V n (j 1).val = Z := by
    intro n h2 h1 h0
    rw [dense, putC_of_not _ _ _ 0 _ _ (by simpa using h0), putC_of_not _ _ _ 1 _ _ (by simpa using h1), putC_of_not _ _ _ 2 _ _ (by simpa using h2)]
  rcases lt4 j with h | h | h | h <;> simp [clearAll, clearC, filled, zeros, h] <;> exact key _

/-- The index vectors of a chunk: the buffer's row in every lane, and the chunk's columns. -/
theorem idx_cond (b : BitVec 32) (c : IVec S16 32) (h : ∀ a x, ((![fun _ => b, c] : Fin 2 → IVec S16 32) a x).toNat < S4x4096.size a)
    (x : S16.Idx) (j : S4x4096.Idx) :
    (∀ a, (j a).val = (idxAt (s := S4x4096) ![fun _ => b, c] h x a).val) ↔ ((j 0).val = b.toNat ∧ (c x).toNat = (j 1).val) := by
  refine Iff.trans (b := (j 0).val = b.toNat ∧ (j 1).val = (c x).toNat) ⟨fun H => ⟨H 0, H 1⟩, fun ⟨h0, h1⟩ a => ?_⟩ (and_congr_right fun _ => eq_comm)
  match a with
  | 0 => exact h0
  | 1 => exact h1

/-- An indexed store that ADDS a chunk: `addC`. -/
theorem storeIdx_add (C : ℕ → ℕ → BitVec 32) (V : ℕ → ℕ → F .f32) (r ch g : ℕ) (A : Vec F S4x4096 .f32) (b : BitVec 32) (hb : b.toNat = g)
    (c : IVec S16 32) (v : Vec F S16 .f32) (hc : ∀ x, c x = C r (16 * ch + (x 0).val)) (hv : ∀ x, v x = V r (16 * ch + (x 0).val))
    (h : ∀ a x, ((![fun _ => b, c] : Fin 2 → IVec S16 32) a x).toNat < S4x4096.size a) :
    storeIdx (s := S4x4096) (e := .f32) A ![fun _ => b, c] v (fun _ => 1#1) true h = addC C V r ch g A := by
  funext j
  unfold storeIdx addC putC
  have key : ∀ (L : List (Fin 16)) (A : Vec F S4x4096 .f32),
      (L.foldl (fun (G : Vec F S4x4096 .f32) (k : Fin 16) => fun j => if (∀ a, (j a).val = (idxAt (s := S4x4096) ![fun _ => b, c] h (Shape.ofLane (d := ![16]) k) a).val)
          then FloatOps.idxAddf (G (idxAt (s := S4x4096) ![fun _ => b, c] h (Shape.ofLane (d := ![16]) k))) (v (Shape.ofLane (d := ![16]) k)) else G j) A) j
        = if (j 0).val = g then L.foldl (fun acc (l : Fin 16) => if (C r (16 * ch + l.val)).toNat = (j 1).val then FloatOps.idxAddf acc (V r (16 * ch + l.val)) else acc) (A j) else A j := by
    intro L
    induction L with
    | nil => intro A; simp
    | cons k L ih =>
      intro A
      rw [List.foldl_cons, List.foldl_cons, ih]
      have hck : c (Shape.ofLane (d := ![16]) k) = C r (16 * ch + k.val) := hc _
      have hvk : v (Shape.ofLane (d := ![16]) k) = V r (16 * ch + k.val) := hv _
      by_cases hg : (j 0).val = g
      · rw [if_pos hg, if_pos hg]
        by_cases hm : (C r (16 * ch + k.val)).toNat = (j 1).val
        · have hcond := (idx_cond b c h (Shape.ofLane (d := ![16]) k) j).mpr ⟨hg.trans hb.symm, by rw [hck]; exact hm⟩
          rw [if_pos hcond, if_pos hm, hvk, show idxAt (s := S4x4096) ![fun _ => b, c] h (Shape.ofLane (d := ![16]) k) = j from funext fun a => Fin.ext (hcond a).symm]
        · rw [if_neg hm, if_neg fun e => hm (by rw [← hck]; exact ((idx_cond b c h _ j).mp e).2)]
      · rw [if_neg hg, if_neg hg, if_neg fun e => hg (((idx_cond b c h _ j).mp e).1.trans hb)]
  refine Eq.trans (congrFun (congrArg (fun f => List.foldl f A (List.finRange 16)) ?_) j) (key (List.finRange 16) A)
  funext G k
  refine (if_pos rfl).trans ?_
  funext j'
  simp only [↓reduceIte, Elt.idxAdd_f32]
  congr 1

/-- An indexed store of ZERO at a chunk's columns: `clearC`. -/
theorem storeIdx_clear (C : ℕ → ℕ → BitVec 32) (r ch g : ℕ) (A : Vec F S4x4096 .f32) (b : BitVec 32) (hb : b.toNat = g)
    (c : IVec S16 32) (hc : ∀ x, c x = C r (16 * ch + (x 0).val))
    (h : ∀ a x, ((![fun _ => b, c] : Fin 2 → IVec S16 32) a x).toNat < S4x4096.size a) :
    storeIdx (s := S4x4096) (e := .f32) A ![fun _ => b, c] (fun _ => Z) (fun _ => 1#1) false h = clearC C r ch g A := by
  funext j
  unfold storeIdx clearC
  have key : ∀ (L : List (Fin 16)) (A : Vec F S4x4096 .f32),
      (L.foldl (fun (G : Vec F S4x4096 .f32) (k : Fin 16) => fun j => if (∀ a, (j a).val = (idxAt (s := S4x4096) ![fun _ => b, c] h (Shape.ofLane (d := ![16]) k) a).val)
          then (Z : F .f32) else G j) A) j
        = if (j 0).val = g ∧ ∃ l ∈ L, (C r (16 * ch + l.val)).toNat = (j 1).val then Z else A j := by
    intro L
    induction L with
    | nil => intro A; simp
    | cons k L ih =>
      intro A
      rw [List.foldl_cons, ih]
      have hck : c (Shape.ofLane (d := ![16]) k) = C r (16 * ch + k.val) := hc _
      have hcond := idx_cond b c h (Shape.ofLane (d := ![16]) k) j
      rw [hck, hb] at hcond
      by_cases h1 : (j 0).val = g ∧ ∃ l ∈ L, (C r (16 * ch + l.val)).toNat = (j 1).val
      · rw [if_pos h1, if_pos ⟨h1.1, let ⟨l, hl, e⟩ := h1.2; ⟨l, List.mem_cons_of_mem _ hl, e⟩⟩]
      · rw [if_neg h1]
        by_cases h2 : (j 0).val = g ∧ (C r (16 * ch + k.val)).toNat = (j 1).val
        · rw [if_pos (hcond.mpr h2), if_pos ⟨h2.1, k, List.mem_cons_self, h2.2⟩]
        · rw [if_neg fun e => h2 (hcond.mp e), if_neg]
          rintro ⟨e, l, hl, e'⟩
          rcases List.mem_cons.mp hl with rfl | hl
          · exact h2 ⟨e, e'⟩
          · exact h1 ⟨e, l, hl, e'⟩
  refine Eq.trans (congrFun (congrArg (fun f => List.foldl f A (List.finRange 16)) ?_) j) ((key (List.finRange 16) A).trans ?_)
  · funext G k
    refine (if_pos rfl).trans ?_
    funext j'
    simp only [↓reduceIte, Bool.false_eq_true]
  simp only [List.mem_finRange, true_and]

end Cert.Proof

end
-- ==== Proof.Setup.lean ====
/-
  The kernel's program as the SparseCore launch theorem sees it, the resource algebra of the proof, the arrays and the tiles' scratch buffers, and
  the facts that tie the two: which rows a tile reads and writes, and what its loads and indexed stores do to its buffers.
-/
module

public import proofs.«01_k».proof.Defs
public import proofs.«01_k».proof.Proof.Scatter
public import Idealize.ShloMosaic.Lib.SparseCore.Quiescent
public import Idealize.ShloMosaic.Lib.SparseCore.Ops
public import Idealize.ShloMosaic.Lib.StableHlo.Run
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch's handshakes, the TensorCore call's transfers, the tiles' own transfers -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' part of the algebra. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The TensorCore call's part. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The arrays and the scratch buffers -/

/-- The padded values, the padded columns and the dense matrix, as a tile names them. -/
abbrev vV : Memref sig .scVector .hbm S4096x48 .f32 := Memref.whole main_v0_scv
abbrev cV : Memref sig .scVector .hbm S4096x48 .i32 := Memref.whole main_v1_scv
abbrev wV : Memref sig .scVector .hbm S4096x4096 .f32 := Memref.whole main_v2_scv
/-- A tile's scratch: its table of values, its table of columns, and the two buffers of four rows. -/
abbrev sV : Memref sig .scVector .vmem S128x48 .f32 := Memref.whole cc0_scratch0
abbrev sC : Memref sig .scVector .vmem S128x48 .i32 := Memref.whole cc0_scratch1
abbrev sB0 : Memref sig .scVector .vmem S4x4096 .f32 := Memref.whole cc0_scratch2
abbrev sB1 : Memref sig .scVector .vmem S4x4096 .f32 := Memref.whole cc0_scratch3

/-- The thread of the tile at grid coordinates `L`. -/
abbrev tC (L : grid0.Coords) : Fin τ.nSC := (L 0).castLE hcore0
abbrev tS (L : grid0.Coords) : Fin τ.nSub := (L 1).castLE hsub0
abbrev thr (d : Dev nD) (L : grid0.Coords) : Thread nD τ := V d (tC L) (tS L)

/-- The first row of the tile at grid coordinates `L`. -/
abbrev base (L : grid0.Coords) : ℕ := 256 * (L 1).val + 128 * (L 0).val

section Tile

variable [FloatOps F] (d : Dev nD) (L : grid0.Coords)

/-- A buffer of four rows held whole, reading `A`. -/
def Buf4 (b : Memref sig .scVector .vmem S4x4096 .f32) (A : Vec F S4x4096 .f32) : sProp 𝕄 :=
  iprop(∃ f, ⌜(b.access (.whole S4x4096)).read (Elt F) f = A⌝
    ∗ (b.access (.whole S4x4096)).loc (thr d L) ↦[(b.access (.whole S4x4096)).set]{fullShare} f)

/-- A tile's table of columns, held whole. -/
def TabC (f : Buf (Elt F) ((thr d L).loc cc0_scratch1)) : sProp 𝕄 := iprop((thr d L).loc cc0_scratch1 ↦{fullShare} f)
/-- A tile's table of values, held whole. -/
def TabV (f : Buf (Elt F) ((thr d L).loc cc0_scratch0)) : sProp 𝕄 := iprop((thr d L).loc cc0_scratch0 ↦{fullShare} f)

/-- The tables read by row and column number. -/
def CT (f : Buf (Elt F) ((thr d L).loc cc0_scratch1)) (r k : ℕ) : BitVec 32 := (f : Vec F S128x48 .i32) (ixT r k)
def VT (f : Buf (Elt F) ((thr d L).loc cc0_scratch0)) (r k : ℕ) : F .f32 := (f : Vec F S128x48 .f32) (ixT r k)

/-- The sixteen elements a chunk's load reads, by row and column number. -/
theorem unit_idx (off : Fin 2 → Nat) (inb : ∀ a, off a + S1x16.size a ≤ S128x48.size a) (r ch : ℕ) (hoff : off = ![r, 16 * ch])
    (x : S16.Idx) :
    (Rect.unit (s := S128x48) off S1x16.size inb).toLoadRect.idx (Shape.reshapeEquiv shapeCasts_S1x16_S16 x) = ixT r (16 * ch + (x 0).val) := by
  subst hoff
  have h0 : r + 1 ≤ 128 := inb 0
  have h1 : 16 * ch + 16 ≤ 48 := inb 1
  have hx : (x 0).val < 16 := (x 0).isLt
  have hk : Shape.reshapeEquiv shapeCasts_S1x16_S16 x = (fun | 0 => (0 : Fin 1) | 1 => (x 0 : Fin 16) | ⟨_ + 2, h⟩ => absurd h (Nat.not_lt.2 (Nat.le_add_left _ _)) : S1x16.Idx) := by
    refine Shape.reshapeEquiv_eq_of_rowMajor _ ?_
    rw [Shape.rowMajor_val_two, Shape.rowMajor_val_one]
    simp
  rw [hk]
  funext a
  apply Fin.ext
  match a with
  | 0 => simp [ixT, LoadRect.idx_apply]; omega
  | 1 => simp [ixT, LoadRect.idx_apply]; omega

/-- What a chunk's load of the columns reads, flattened to sixteen lanes. -/
theorem cols_read (f : Buf (Elt F) ((thr d L).loc cc0_scratch1)) (off : Fin 2 → Nat) (inb : ∀ a, off a + S1x16.size a ≤ S128x48.size a) (r ch : ℕ)
    (hoff : off = ![r, 16 * ch]) (x : S16.Idx) :
    shapeCast S16 ((sC : Memref sig .scVector .vmem S128x48 .i32).view.readAt (Elt F) (Rect.unit (s := S128x48) off S1x16.size inb).toLoadRect f) shapeCasts_S1x16_S16 x
      = CT d L f r (16 * ch + (x 0).val) := by
  unfold shapeCast CT
  rw [View.readAt_apply, unit_idx off inb r ch hoff x]
  simp only [Memref.view_whole, View.read_whole]

/-- What a chunk's load of the values reads, flattened to sixteen lanes. -/
theorem vals_read (f : Buf (Elt F) ((thr d L).loc cc0_scratch0)) (off : Fin 2 → Nat) (inb : ∀ a, off a + S1x16.size a ≤ S128x48.size a) (r ch : ℕ)
    (hoff : off = ![r, 16 * ch]) (x : S16.Idx) :
    shapeCast S16 ((sV : Memref sig .scVector .vmem S128x48 .f32).view.readAt (Elt F) (Rect.unit (s := S128x48) off S1x16.size inb).toLoadRect f) shapeCasts_S1x16_S16 x
      = VT d L f r (16 * ch + (x 0).val) := by
  unfold shapeCast VT
  rw [View.readAt_apply, unit_idx off inb r ch hoff x]
  simp only [Memref.view_whole, View.read_whole]

/-! ## One chunk: the loads, the check and the indexed store -/

variable {f6 : Buf (Elt F) ((thr d L).loc cc0_scratch1)} {f5 : Buf (Elt F) ((thr d L).loc cc0_scratch0)}

/-- The columns a chunk loads are in range, with any row of the buffer. -/
theorem chunk_in_range (hC : ∀ r k, (CT d L f6 r k).toNat < 4096) (off : Fin 2 → Nat) (inb : ∀ a, off a + S1x16.size a ≤ S128x48.size a) {r ch : ℕ}
    (hoff : off = ![r, 16 * ch]) {b : BitVec 32} {g : ℕ} (hb : b.toNat = g) (hg : g < 4) :
    ∀ a x, ((![fun _ => b, shapeCast S16 ((sC : Memref sig .scVector .vmem S128x48 .i32).view.readAt (Elt F) (Rect.unit (s := S128x48) off S1x16.size inb).toLoadRect f6)
      shapeCasts_S1x16_S16] : Fin 2 → IVec S16 32) a x).toNat < S4x4096.size a := by
  intro a x
  match a with
  | 0 => exact hb ▸ hg
  | 1 =>
    exact lt_of_eq_of_lt (congrArg BitVec.toNat (cols_read d L f6 off inb r ch hoff x)) (hC _ _)

variable {α : Type}

/-- A load of a chunk of columns. -/
theorem wp_cols {r : LoadRect S128x48} {hl : (sC : Memref sig .scVector .vmem S128x48 .i32).view.LoadsAt r}
    {k : (r.shape.Idx → Elt F .i32) → Prog (TpuEff nD τ sig (Elt F) Λ₀ (thr d L).2) α} {Q : α → sProp 𝕄} :
    (TabC d L f6) ⊢ iprop((TabC d L f6 -∗ wp frame (wpE (defs₀ (F := F)) 𝒱₀ (thr d L) none) Set.univ (k ((sC : Memref sig .scVector .vmem S128x48 .i32).view.readAt (Elt F) r f6)) Q)
      -∗ wp frame (wpE (defs₀ (F := F)) 𝒱₀ (thr d L) none) Set.univ (.op (.load sC r hl) k) Q) :=
  wp_load 𝒱₀ (thr d L) none Set.univ (m := sC) (S := Finset.univ) (Finset.subset_univ _)

/-- A load of a chunk of values. -/
theorem wp_vals {r : LoadRect S128x48} {hl : (sV : Memref sig .scVector .vmem S128x48 .f32).view.LoadsAt r}
    {k : (r.shape.Idx → Elt F .f32) → Prog (TpuEff nD τ sig (Elt F) Λ₀ (thr d L).2) α} {Q : α → sProp 𝕄} :
    (TabV d L f5) ⊢ iprop((TabV d L f5 -∗ wp frame (wpE (defs₀ (F := F)) 𝒱₀ (thr d L) none) Set.univ (k ((sV : Memref sig .scVector .vmem S128x48 .f32).view.readAt (Elt F) r f5)) Q)
      -∗ wp frame (wpE (defs₀ (F := F)) 𝒱₀ (thr d L) none) Set.univ (.op (.load sV r hl) k) Q) :=
  wp_load 𝒱₀ (thr d L) none Set.univ (m := sV) (S := Finset.univ) (Finset.subset_univ _)

/-- An indexed store into a buffer of four rows. -/
theorem wp_storeIdx {b : Memref sig .scVector .vmem S4x4096 .f32} {A : Vec F S4x4096 .f32} {idxs : Fin 2 → IVec S16 32} {v : Vec F S16 .f32} {add : Bool}
    {h : ∀ a x, (idxs a x).toNat < S4x4096.size a} {hs : (b.access (.whole S4x4096)).Stores Finset.univ}
    {k : PUnit → Prog (TpuEff nD τ sig (Elt F) Λ₀ (thr d L).2) α} {Q : α → sProp 𝕄} :
    (Buf4 d L b A) ⊢ iprop((Buf4 d L b (storeIdx (s := S4x4096) (e := .f32) A idxs v (fun _ => 1#1) add h) -∗ wp frame (wpE (defs₀ (F := F)) 𝒱₀ (thr d L) none) Set.univ (k ⟨⟩) Q)
      -∗ wp frame (wpE (defs₀ (F := F)) 𝒱₀ (thr d L) none) Set.univ (SparseCore.vectorStoreIdx b idxs v (fun _ => 1#1) add h hs >>= k) Q) := by
  unfold Buf4
  iintro ⟨%f, %hf, H⟩ Hk
  iapply (SparseCore.wp_vectorStoreIdx 𝒱₀ (thr d L) none Set.univ (base := b)) $$ H
  iintro H
  iapply Hk
  iexists _
  isplitr
  rotate_left
  · iexact H
  · ipureintro
    rw [hf]
    exact View.read_write_univ _ _

/-- A chunk cleared: its columns loaded, checked, and zero stored at them in row `g` of the buffer. -/
theorem wp_clear (hC : ∀ r k, (CT d L f6 r k).toNat < 4096) {b : Memref sig .scVector .vmem S4x4096 .f32} {A : Vec F S4x4096 .f32} {off : Fin 2 → Nat}
    {inb : ∀ a, off a + S1x16.size a ≤ S128x48.size a} (r ch g : ℕ) (hoff : off = ![r, 16 * ch]) {bv : BitVec 32} (hbv : bv.toNat = g) (hg : g < 4)
    {row : IVec S16 32} (hrow : row = fun _ => bv) {z : Vec F S16 .f32} (hz : z = fun _ => Z)
    {hl : (sC : Memref sig .scVector .vmem S128x48 .i32).view.LoadsAt (Rect.unit (s := S128x48) off S1x16.size inb).toLoadRect}
    {P : Vec F S1x16 .i32 → Prop} {dec : ∀ ld, Decidable (P ld)}
    (hP : ∀ ld, (∀ a x, ((![row, shapeCast S16 ld shapeCasts_S1x16_S16] : Fin 2 → IVec S16 32) a x).toNat < S4x4096.size a) → P ld)
    {hb : ∀ ld, PLift (P ld) → ∀ a x, ((![row, shapeCast S16 ld shapeCasts_S1x16_S16] : Fin 2 → IVec S16 32) a x).toNat < S4x4096.size a}
    {hs : (b.access (.whole S4x4096)).Stores Finset.univ}
    {k : PUnit → Prog (TpuEff nD τ sig (Elt F) Λ₀ (thr d L).2) α} {Q : α → sProp 𝕄} :
    iprop(TabC d L f6 ∗ Buf4 d L b A) ⊢ iprop((iprop(TabC d L f6 ∗ Buf4 d L b (clearC (CT d L f6) r ch g A)) -∗ wp frame (wpE (defs₀ (F := F)) 𝒱₀ (thr d L) none) Set.univ (k ⟨⟩) Q)
      -∗ wp frame (wpE (defs₀ (F := F)) 𝒱₀ (thr d L) none) Set.univ (.op (.load sC (Rect.unit (s := S128x48) off S1x16.size inb).toLoadRect hl) fun ld : Vec F S1x16 .i32 => .op (.assume (P ld) (dec ld)) fun hw =>
        SparseCore.vectorStoreIdx b ![row, shapeCast S16 ld shapeCasts_S1x16_S16] z (fun _ => 1#1) false (hb ld hw) hs >>= k) Q) := by
  subst hrow hz
  iintro ⟨HC, HB⟩ Hk
  iapply (wp_cols d L) $$ HC
  iintro HC
  have hr := chunk_in_range d L hC off inb hoff hbv hg
  rw [wp_assume_of _ _ _ _ (hP _ hr)]
  iapply (wp_storeIdx d L) $$ HB
  rw [storeIdx_clear (CT d L f6) r ch g A bv hbv _ (cols_read d L f6 off inb r ch hoff)]
  iintro HB
  iapply Hk
  isplitl [HC] <;> iassumption

/-- A chunk added: its columns loaded and checked, its values loaded, and the values added at the columns in row `g` of the buffer. -/
theorem wp_add (hC : ∀ r k, (CT d L f6 r k).toNat < 4096) {b : Memref sig .scVector .vmem S4x4096 .f32} {A : Vec F S4x4096 .f32} {off : Fin 2 → Nat}
    {inb inb' : ∀ a, off a + S1x16.size a ≤ S128x48.size a} (r ch g : ℕ) (hoff : off = ![r, 16 * ch]) {bv : BitVec 32} (hbv : bv.toNat = g) (hg : g < 4)
    {row : IVec S16 32} (hrow : row = fun _ => bv) {v : Vec F S1x16 .f32 → Vec F S16 .f32} (hv : v = fun ld => shapeCast S16 ld shapeCasts_S1x16_S16)
    {hl : (sC : Memref sig .scVector .vmem S128x48 .i32).view.LoadsAt (Rect.unit (s := S128x48) off S1x16.size inb).toLoadRect}
    {hl' : (sV : Memref sig .scVector .vmem S128x48 .f32).view.LoadsAt (Rect.unit (s := S128x48) off S1x16.size inb').toLoadRect}
    {P : Vec F S1x16 .i32 → Prop} {dec : ∀ ld, Decidable (P ld)}
    (hP : ∀ ld, (∀ a x, ((![row, shapeCast S16 ld shapeCasts_S1x16_S16] : Fin 2 → IVec S16 32) a x).toNat < S4x4096.size a) → P ld)
    {hb : ∀ ld, PLift (P ld) → ∀ a x, ((![row, shapeCast S16 ld shapeCasts_S1x16_S16] : Fin 2 → IVec S16 32) a x).toNat < S4x4096.size a}
    {hs : (b.access (.whole S4x4096)).Stores Finset.univ}
    {k : PUnit → Prog (TpuEff nD τ sig (Elt F) Λ₀ (thr d L).2) α} {Q : α → sProp 𝕄} :
    iprop(TabC d L f6 ∗ TabV d L f5 ∗ Buf4 d L b A)
      ⊢ iprop((iprop(TabC d L f6 ∗ TabV d L f5 ∗ Buf4 d L b (addC (CT d L f6) (VT d L f5) r ch g A)) -∗ wp frame (wpE (defs₀ (F := F)) 𝒱₀ (thr d L) none) Set.univ (k ⟨⟩) Q)
      -∗ wp frame (wpE (defs₀ (F := F)) 𝒱₀ (thr d L) none) Set.univ (.op (.load sC (Rect.unit (s := S128x48) off S1x16.size inb).toLoadRect hl) fun ld : Vec F S1x16 .i32 => .op (.assume (P ld) (dec ld)) fun hw =>
        .op (.load sV (Rect.unit (s := S128x48) off S1x16.size inb').toLoadRect hl') fun ld' : Vec F S1x16 .f32 =>
          SparseCore.vectorStoreIdx b ![row, shapeCast S16 ld shapeCasts_S1x16_S16] (v ld') (fun _ => 1#1) true (hb ld hw) hs >>= k) Q) := by
  subst hrow hv
  iintro ⟨HC, HV, HB⟩ Hk
  iapply (wp_cols d L) $$ HC
  iintro HC
  have hr := chunk_in_range d L hC off inb hoff hbv hg
  rw [wp_assume_of _ _ _ _ (hP _ hr)]
  iapply (wp_vals d L) $$ HV
  iintro HV
  iapply (wp_storeIdx d L) $$ HB
  rw [storeIdx_add (CT d L f6) (VT d L f5) r ch g A bv hbv _ _ (cols_read d L f6 off inb r ch hoff) (vals_read d L f5 off inb' r ch hoff)]
  iintro HB
  iapply Hk
  isplitl [HC]; · iassumption
  isplitl [HV] <;> iassumption

end Tile

end Cert.Proof

end
-- ==== Proof.Dma.lean ====
/-
  The tile's transfers: the two fetches of its tables, and the copies of its two buffers of four rows out to the dense matrix, which stay in flight
  across a trip of the main loop.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The arrays the tiles read and write, as locations of device `d`. -/
abbrev vLoc (d : Dev nD) : Loc nD τ sig := (SparseCore.T d).loc main_v0
abbrev cLoc (d : Dev nD) : Loc nD τ sig := (SparseCore.T d).loc main_v1
abbrev wLoc (d : Dev nD) : Loc nD τ sig := (SparseCore.T d).loc main_v2

theorem hdivT : 32 ∣ S4096x48.size 0 := ⟨128, rfl⟩
theorem hdivG : 1024 ∣ S4096x4096.size 0 := ⟨4, rfl⟩

/-- The number of a tile among the 32, and of its group `g` of four rows among the 1024. -/
def tileNo (L : grid0.Coords) : Fin 32 := ⟨2 * (L 1).val + (L 0).val, by have h1 : (L 1).val < 16 := (L 1).isLt; have h0 : (L 0).val < 2 := (L 0).isLt; omega⟩
def groupNo (L : grid0.Coords) (g : Fin 32) : Fin 1024 :=
  ⟨32 * (tileNo L).val + g.val, by have := (tileNo L).isLt; have := g.isLt; omega⟩

/-- The rows of the padded tables that tile `w` fetches, and the rows of the dense matrix in group `n`. -/
abbrev tSet (w : Fin 32) : Finset S4096x48.Idx := (Rect.part (s := S4096x48) (a₀ := 0) hdivT w).set
abbrev gSet (n : Fin 1024) : Finset S4096x4096.Idx := (Rect.part (s := S4096x4096) (a₀ := 0) hdivG n).set

section Tile

variable [FloatOps F] (d : Dev nD) (L : grid0.Coords)

omit [FloatOps F] in
theorem tSlice_set (off : Fin 2 → Nat) (inb : ∀ a, off a + S128x48.size a ≤ S4096x48.size a) (hoff : off = ![base L, 0]) :
    (Rect.unit (s := S4096x48) off S128x48.size inb).set = tSet (tileNo L) := by
  subst hoff
  ext i
  rw [Rect.mem_set_unit, Rect.mem_set_unit]
  show (∀ a : Fin 2, _) ↔ (∀ a : Fin 2, _)
  simp only [Fin.forall_fin_two]
  simp [Shape.partIx, Shape.partSize, tileNo, base]
  omega

omit [FloatOps F] in
theorem gSlice_set (g : Fin 32) (off : Fin 2 → Nat) (inb : ∀ a, off a + S4x4096.size a ≤ S4096x4096.size a) (hoff : off = ![base L + 4 * g.val, 0]) :
    (Rect.unit (s := S4096x4096) off S4x4096.size inb).set = gSet (groupNo L g) := by
  subst hoff
  ext i
  rw [Rect.mem_set_unit, Rect.mem_set_unit]
  show (∀ a : Fin 2, _) ↔ (∀ a : Fin 2, _)
  simp only [Fin.forall_fin_two]
  simp [Shape.partIx, Shape.partSize, tileNo, groupNo, base]
  omega

omit [FloatOps F] in
theorem gView_set (g : Fin 32) (off : Fin 2 → Nat) (inb : ∀ a, off a + S4x4096.size a ≤ S4096x4096.size a) (hoff : off = ![base L + 4 * g.val, 0]) :
    (wV.slice (Rect.unit (s := S4096x4096) off S4x4096.size inb) (fun _ => rfl)).view.set = gSet (groupNo L g) := by
  rw [← gSlice_set L g off inb hoff]
  show ((View.whole (main_v2_scv : Ref sig .scVector)).slice (Rect.unit (s := S4096x4096) off S4x4096.size inb)).set = _
  rw [View.set_slice]; exact Finset.map_refl

/-- The units a copy of four rows of the dense matrix credits. -/
abbrev NW : ℕ := sig.dmaCredit .scVector (Kind.scVector.table .hbm) (main_v2_scv : Ref sig .scVector).idx S4x4096 .f32
theorem NW_pos : 0 < NW := sig.dmaCredit_pos _ _ _ _ _ (by decide)

/-- The counters' part of the algebra. -/
abbrev EC : UEmb Counters (MT nD τ sig (HIx 1) (Elt F) ℕ UU ℕ) := countersEmb

/-- What the thread owes, its waits so far being those it came with and waits at no handshake. -/
def OW (O : CellTallies nD τ sig (HIx 1)) (W₀ : Waits sig (HIx 1)) : sProp 𝕄 :=
  iprop(∃ W', ⌜∀ p ∈ W', p ∈ W₀ ∨ p.2 = none⌝ ∗ owes (thr d L) O W')

/-- Group `g` of the tile's rows of the dense matrix, at contents `W`. -/
def WG (g : Fin 32) (W : Buf (Elt F) (wLoc d)) : sProp 𝕄 := iprop(wLoc d ↦[gSet (groupNo L g)]{fullShare} W)

/-- The dense matrix `W` holds, in the tile's rows, what its tables say. -/
def DenseOn (f6 : Buf (Elt F) ((thr d L).loc cc0_scratch1)) (f5 : Buf (Elt F) ((thr d L).loc cc0_scratch0)) (W : Buf (Elt F) (wLoc d)) : Prop :=
  ∀ r < 128, ∀ i : S4096x4096.Idx, (i 0).val = base L + r → (W : Vec F S4096x4096 .f32) i = dense (CT d L f6) (VT d L f5) r (i 1).val

/-- A copy of buffer `b`, filled with group `g`, out to the dense matrix, in flight on semaphore `sm`. -/
def Fl (f6 : Buf (Elt F) ((thr d L).loc cc0_scratch1)) (f5 : Buf (Elt F) ((thr d L).loc cc0_scratch0)) (W : Buf (Elt F) (wLoc d))
    (b : Memref sig .scVector .vmem S4x4096 .f32) (sm : DmaSem sig) (g : Fin 32) : sProp 𝕄 :=
  Transfers.Flight EC (thr d L) (.dma sm) none NW iprop(WG d L g W ∗ Buf4 d L b (filled (CT d L f6) (VT d L f5) (4 * g.val)))

variable {f6 : Buf (Elt F) ((thr d L).loc cc0_scratch1)} {f5 : Buf (Elt F) ((thr d L).loc cc0_scratch0)} {W : Buf (Elt F) (wLoc d)}

/-- A buffer of four rows, by its own view. -/
theorem buf4_view {b : Memref sig .scVector .vmem S4x4096 .f32} (hb : b = sB0 ∨ b = sB1) (A : Vec F S4x4096 .f32) :
    Buf4 d L b A = (iprop(∃ f, ⌜b.view.read (Elt F) f = A⌝ ∗ b.view.loc (thr d L) ↦[b.view.set]{fullShare} f) : sProp 𝕄) := by
  unfold Buf4
  rcases hb with rfl | rfl
  · have hr : ∀ f, ((sB0 : Memref sig .scVector .vmem S4x4096 .f32).access (.whole S4x4096)).read (Elt F) f = f := Memref.read_access_whole (Elt F) cc0_scratch2
    have hs : ((sB0 : Memref sig .scVector .vmem S4x4096 .f32).access (.whole S4x4096)).set = Finset.univ := Memref.set_access_whole cc0_scratch2
    simp only [hr, hs, Memref.view_whole, View.set_whole, View.read_whole]
  · have hr : ∀ f, ((sB1 : Memref sig .scVector .vmem S4x4096 .f32).access (.whole S4x4096)).read (Elt F) f = f := Memref.read_access_whole (Elt F) cc0_scratch3
    have hs : ((sB1 : Memref sig .scVector .vmem S4x4096 .f32).access (.whole S4x4096)).set = Finset.univ := Memref.set_access_whole cc0_scratch3
    simp only [hr, hs, Memref.view_whole, View.set_whole, View.read_whole]

/-- What a copy of a filled buffer leaves in its group of rows is the dense matrix. -/
theorem write_group (hW : DenseOn d L f6 f5 W) (g : Fin 32) (off : Fin 2 → Nat) (inb : ∀ a, off a + S4x4096.size a ≤ S4096x4096.size a)
    (hoff : off = ![base L + 4 * g.val, 0]) (fd : Buf (Elt F) (wLoc d)) :
    ∀ i ∈ gSet (groupNo L g), ((wV.slice (Rect.unit (s := S4096x4096) off S4x4096.size inb) (fun _ => rfl)).view.write (Elt F) fd
      (filled (CT d L f6) (VT d L f5) (4 * g.val)) Finset.univ : Vec F S4096x4096 .f32) i = (W : Vec F S4096x4096 .f32) i := by
  intro i hi
  rw [← gSlice_set L g off inb hoff, ← Rect.map_emb_univ] at hi
  obtain ⟨j, -, rfl⟩ := Finset.mem_map.mp hi
  have h0 : (((Rect.unit (s := S4096x4096) off S4x4096.size inb).emb j) 0).val = base L + (4 * g.val + (j 0).val) := by
    subst hoff; simp [Rect.emb_apply, LoadRect.idx_apply]; omega
  have h1 : (((Rect.unit (s := S4096x4096) off S4x4096.size inb).emb j) 1).val = (j 1).val := by
    subst hoff; simp [Rect.emb_apply, LoadRect.idx_apply]
  have hj : (j 0).val < 4 := (j 0).isLt
  refine Eq.trans (?_ : _ = filled (CT d L f6) (VT d L f5) (4 * g.val) j) ?_
  · exact View.write_emb_of_mem (v := (wV.slice (Rect.unit (s := S4096x4096) off S4x4096.size inb) (fun _ => rfl)).view) fd
      (filled (CT d L f6) (VT d L f5) (4 * g.val)) (Finset.mem_univ j)
  · rw [hW (4 * g.val + (j 0).val) (by have := g.isLt; omega) _ h0, h1]; rfl

/-- A wait for a transfer in flight on one of the tile's own semaphores. -/
theorem wp_wait {O : CellTallies nD τ sig (HIx 1)} {W₀ : Waits sig (HIx 1)} {sem : DmaSem sig} {N : ℕ} {D : sProp 𝕄} {sp sp' : Space} {s s' : Shape} {e e' : EltTy}
    {srcw : Memref sig (thr d L).2.kind sp' s' e'} {dstw : Memref sig .scVector sp s e} {hsrc : srcw.view.WordExact} {hdst : dstw.view.WordExact}
    (hN : dstw.view.dmaCredit = N) {α : Type} {k : PUnit → Prog (TpuEff nD τ sig (Elt F) Λ₀ (thr d L).2) α} {Q : α → sProp 𝕄} :
    iprop(Transfers.MayWaits (thr d L) none O ∗ Transfers.Flight EC (thr d L) (.dma sem) none N D ∗ OW d L O W₀)
      ⊢ iprop((iprop(D ∗ semVal (thr d L, .dma sem) 0 ∗ OW d L O W₀) -∗ wp frame (wpE (defs₀ (F := F)) 𝒱₀ (thr d L) none) Set.univ (k ⟨⟩) Q) -∗ wp frame (wpE (defs₀ (F := F)) 𝒱₀ (thr d L) none) Set.univ (.op (.waitDma2 sem srcw dstw hsrc hdst) k) Q) := by
  unfold OW
  iintro ⟨Hmw, HF, %W', %hW', HO⟩ Hk
  iapply (Transfers.wp_waitLocalO EC 𝒱₀ (thr d L) none none hN (D := D)) $$ [Hmw HF HO]
  · isplitl [HF]; · iexact HF
    isplitl [HO]; · iexact HO
    iapply Transfers.MayWaits.elim $$ Hmw
  iintro ⟨HD, Hs, HO⟩
  iapply Hk
  isplitl [HD]; · iexact HD
  isplitl [Hs]; · iexact Hs
  iexists (insert (SemLoc.dma sem, none) W')
  isplitr
  · ipureintro
    intro p hp
    rcases Finset.mem_insert.mp hp with rfl | hp
    · exact .inr rfl
    · exact hW' p hp
  · iexact HO

/-- The copy of a filled buffer out to its group of rows is issued. -/
theorem wp_issue (hW : DenseOn d L f6 f5 W) {b : Memref sig .scVector .vmem S4x4096 .f32} (hb : b = sB0 ∨ b = sB1) {sm : DmaSem sig} (g : Fin 32) {off : Fin 2 → Nat}
    {inb : ∀ a, off a + S4x4096.size a ≤ S4096x4096.size a} (hoff : off = ![base L + 4 * g.val, 0]) {fd : Buf (Elt F) (wLoc d)}
    {hsrc : b.view.WordExact} {hdst : (wV.slice (Rect.unit (s := S4096x4096) off S4x4096.size inb) (fun _ => rfl)).view.WordExact}
    {hsem : DmaTarget.Typed (nD := nD) .vmem (.dma sm) (.here (p := (thr d L).2) (wV.slice (Rect.unit (s := S4096x4096) off S4x4096.size inb) (fun _ => rfl)))}
    {α : Type} {k : PUnit → Prog (TpuEff nD τ sig (Elt F) Λ₀ (thr d L).2) α} {Q : α → sProp 𝕄} :
    iprop(Buf4 d L b (filled (CT d L f6) (VT d L f5) (4 * g.val)) ∗ WG d L g fd ∗ semVal (thr d L, .dma sm) 0)
      ⊢ iprop((Fl d L f6 f5 W b sm g -∗ wp frame (wpE (defs₀ (F := F)) 𝒱₀ (thr d L) none) Set.univ (k ⟨⟩) Q)
        -∗ wp frame (wpE (defs₀ (F := F)) 𝒱₀ (thr d L) none) Set.univ (.op (.enqueueDma b (.here (wV.slice (Rect.unit (s := S4096x4096) off S4x4096.size inb) (fun _ => rfl))) (.dma sm) hsrc hdst hsem) k) Q) := by
  unfold WG
  rw [buf4_view d L hb]
  iintro ⟨⟨%f, %hf, HB⟩, HW, Hs⟩ Hk
  have hwr : ∀ i ∈ gSet (groupNo L g), ((wV.slice (Rect.unit (s := S4096x4096) off S4x4096.size inb) (fun _ => rfl)).view.write (Elt F) fd
      ((ReadAs.same : ReadAs (Elt F) S4x4096 .f32 S4x4096 .f32).apply (b.view.read (Elt F) f)) Finset.univ : Vec F S4096x4096 .f32) i = (W : Vec F S4096x4096 .f32) i := by
    intro i hi
    rw [show (ReadAs.same : ReadAs (Elt F) S4x4096 .f32 S4x4096 .f32).apply (b.view.read (Elt F) f) = filled (CT d L f6) (VT d L f5) (4 * g.val) from hf]
    exact write_group d L hW g off inb hoff fd i hi
  iapply (Transfers.wp_dmaLocal EC 𝒱₀ (thr d L) none (src := b) (dst := wV.slice (Rect.unit (s := S4096x4096) off S4x4096.size inb) (fun _ => rfl))
    (Sd := gSet (groupNo L g)) (fd := fd) (fs := f) (q := fullShare) none NW rfl NW_pos ?_) $$ [HB HW Hs]
  · rw [gView_set L g off inb hoff]
  · isplitl [HB]; · iexact HB
    isplitl [HW] <;> iassumption
  iintro HF
  iapply Hk
  unfold Fl
  iapply (Transfers.Flight_mono EC (thr d L) ?_) $$ HF
  unfold WG
  rw [buf4_view d L hb]
  iintro ⟨HW, HB⟩
  isplitl [HW]
  · iapply (Entails.of_eq (pointsTo_congr (ℓ := wLoc d) hwr)) $$ HW
  · iexists f; isplitr
    · ipureintro; exact hf
    · iexact HB

end Tile

end Cert.Proof

end
-- ==== Proof.Parts.lean ====
/-
  One trip of the tile's main loop, part by part as the program is printed: for each of the two buffers, wait for the copy issued a trip before and
  clear what it held, add the four rows of the next group, and issue their copy.
-/
module

public import proofs.«01_k».proof.Proof.Dma

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- Where the clearing loads of the first buffer read: the rows of the group two before. -/
theorem off_clear0 : ∀ t : Fin k0_t2_loop.trips, k0_cond1 t = 1#1 →
    (k0_off7 t = ![4 * (2 * t.val - 2), 0] ∧ k0_off8 t = ![4 * (2 * t.val - 2), 16] ∧ k0_off9 t = ![4 * (2 * t.val - 2), 32]) ∧
    (k0_off10 t = ![4 * (2 * t.val - 2) + 1, 0] ∧ k0_off11 t = ![4 * (2 * t.val - 2) + 1, 16] ∧ k0_off12 t = ![4 * (2 * t.val - 2) + 1, 32]) ∧
    (k0_off13 t = ![4 * (2 * t.val - 2) + 2, 0] ∧ k0_off14 t = ![4 * (2 * t.val - 2) + 2, 16] ∧ k0_off15 t = ![4 * (2 * t.val - 2) + 2, 32]) ∧
    (k0_off16 t = ![4 * (2 * t.val - 2) + 3, 0] ∧ k0_off17 t = ![4 * (2 * t.val - 2) + 3, 16] ∧ k0_off18 t = ![4 * (2 * t.val - 2) + 3, 32]) := by decide +kernel

/-- Where the clearing loads of the second buffer read. -/
theorem off_clear1 : ∀ t : Fin k0_t2_loop.trips, k0_cond2 t = 1#1 →
    (k0_off33 t = ![4 * (2 * t.val - 1), 0] ∧ k0_off34 t = ![4 * (2 * t.val - 1), 16] ∧ k0_off35 t = ![4 * (2 * t.val - 1), 32]) ∧
    (k0_off36 t = ![4 * (2 * t.val - 1) + 1, 0] ∧ k0_off37 t = ![4 * (2 * t.val - 1) + 1, 16] ∧ k0_off38 t = ![4 * (2 * t.val - 1) + 1, 32]) ∧
    (k0_off39 t = ![4 * (2 * t.val - 1) + 2, 0] ∧ k0_off40 t = ![4 * (2 * t.val - 1) + 2, 16] ∧ k0_off41 t = ![4 * (2 * t.val - 1) + 2, 32]) ∧
    (k0_off42 t = ![4 * (2 * t.val - 1) + 3, 0] ∧ k0_off43 t = ![4 * (2 * t.val - 1) + 3, 16] ∧ k0_off44 t = ![4 * (2 * t.val - 1) + 3, 32]) := by decide +kernel

/-- Where the adding loads of the first buffer read. -/
theorem off_add0 : ∀ t : Fin k0_t2_loop.trips,
    (k0_off19 t = ![4 * (2 * t.val), 0] ∧ k0_off20 t = ![4 * (2 * t.val), 16] ∧ k0_off21 t = ![4 * (2 * t.val), 32]) ∧
    (k0_off22 t = ![4 * (2 * t.val) + 1, 0] ∧ k0_off23 t = ![4 * (2 * t.val) + 1, 16] ∧ k0_off24 t = ![4 * (2 * t.val) + 1, 32]) ∧
    (k0_off25 t = ![4 * (2 * t.val) + 2, 0] ∧ k0_off26 t = ![4 * (2 * t.val) + 2, 16] ∧ k0_off27 t = ![4 * (2 * t.val) + 2, 32]) ∧
    (k0_off28 t = ![4 * (2 * t.val) + 3, 0] ∧ k0_off29 t = ![4 * (2 * t.val) + 3, 16] ∧ k0_off30 t = ![4 * (2 * t.val) + 3, 32]) := by decide +kernel

/-- Where the adding loads of the second buffer read. -/
theorem off_add1 : ∀ t : Fin k0_t2_loop.trips,
    (k0_off45 t = ![4 * (2 * t.val + 1), 0] ∧ k0_off46 t = ![4 * (2 * t.val + 1), 16] ∧ k0_off47 t = ![4 * (2 * t.val + 1), 32]) ∧
    (k0_off48 t = ![4 * (2 * t.val + 1) + 1, 0] ∧ k0_off49 t = ![4 * (2 * t.val + 1) + 1, 16] ∧ k0_off50 t = ![4 * (2 * t.val + 1) + 1, 32]) ∧
    (k0_off51 t = ![4 * (2 * t.val + 1) + 2, 0] ∧ k0_off52 t = ![4 * (2 * t.val + 1) + 2, 16] ∧ k0_off53 t = ![4 * (2 * t.val + 1) + 2, 32]) ∧
    (k0_off54 t = ![4 * (2 * t.val + 1) + 3, 0] ∧ k0_off55 t = ![4 * (2 * t.val + 1) + 3, 16] ∧ k0_off56 t = ![4 * (2 * t.val + 1) + 3, 32]) := by decide +kernel

theorem cond1_iff : ∀ t : Fin k0_t2_loop.trips, k0_cond1 t = 1#1 ↔ 0 < t.val := by decide +kernel
theorem cond2_iff : ∀ t : Fin k0_t2_loop.trips, k0_cond2 t = 1#1 ↔ 0 < t.val := by decide +kernel
theorem trips_lt : ∀ t : Fin k0_t2_loop.trips, t.val < 16 := by decide +kernel

/-- The groups of trip `t`: its own two, and the two of the trip before. -/
def own0 (t : Fin k0_t2_loop.trips) : Fin 32 := ⟨2 * t.val, by have := trips_lt t; omega⟩
def own1 (t : Fin k0_t2_loop.trips) : Fin 32 := ⟨2 * t.val + 1, by have := trips_lt t; omega⟩
def prev0 (t : Fin k0_t2_loop.trips) : Fin 32 := ⟨2 * t.val - 2, by have := trips_lt t; omega⟩
def prev1 (t : Fin k0_t2_loop.trips) : Fin 32 := ⟨2 * t.val - 1, by have := trips_lt t; omega⟩

section Tile

variable [FloatOps F] (d : Dev nD) (L : grid0.Coords)

variable {f6 : Buf (Elt F) ((thr d L).loc cc0_scratch1)} {f5 : Buf (Elt F) ((thr d L).loc cc0_scratch0)} {W : Buf (Elt F) (wLoc d)}
variable {O : CellTallies nD τ sig (HIx 1)} {W₀ : Waits sig (HIx 1)}

/-- A conditional whose skipped branch is what the taken branch goes on with: the common rest is proved once, from what both leave. -/
theorem dite_wp {α : Type} {Q : α → sProp 𝕄} {c : Prop} [Decidable c] {p : c → Prog (TpuEff nD τ sig (Elt F) Λ₀ (thr d L).2) α}
    {rest : Prog (TpuEff nD τ sig (Elt F) Λ₀ (thr d L).2) α} {S0 : sProp 𝕄} (S1 : sProp 𝕄) (hrest : S1 ⊢ wp frame (wpE (defs₀ (F := F)) 𝒱₀ (thr d L) none) Set.univ rest Q)
    (h1 : (S1 ⊢ wp frame (wpE (defs₀ (F := F)) 𝒱₀ (thr d L) none) Set.univ rest Q) → ∀ hc, S0 ⊢ wp frame (wpE (defs₀ (F := F)) 𝒱₀ (thr d L) none) Set.univ (p hc) Q) (h0 : ¬c → (S0 ⊢ S1)) : S0 ⊢ wp frame (wpE (defs₀ (F := F)) 𝒱₀ (thr d L) none) Set.univ (if hc : c then p hc else rest) Q := by
  by_cases hc : c
  · rw [dif_pos hc]; exact h1 hrest hc
  · rw [dif_neg hc]; exact (h0 hc).trans hrest

/-- The first `n` of the twelve chunks of four rows added, in the kernel's order. -/
def addUpTo (C : ℕ → ℕ → BitVec 32) (V : ℕ → ℕ → F .f32) (r : ℕ) (A : Vec F S4x4096 .f32) : ℕ → Vec F S4x4096 .f32
  | 0 => A
  | n + 1 => addC C V (r + n / 3) (n % 3) (n / 3) (addUpTo C V r A n)

/-- The first `n` of the twelve chunks of four rows cleared, in the kernel's order. -/
def clearUpTo (C : ℕ → ℕ → BitVec 32) (r : ℕ) (A : Vec F S4x4096 .f32) : ℕ → Vec F S4x4096 .f32
  | 0 => A
  | n + 1 => clearC C (r + n / 3) (n % 3) (n / 3) (clearUpTo C r A n)

/-- The last row's chunks added to the other nine over zeros: the four rows of the dense matrix. -/
theorem add_last (C : ℕ → ℕ → BitVec 32) (V : ℕ → ℕ → F .f32) (r : ℕ) :
    addC C V (r + 3) 2 3 (addC C V (r + 3) 1 3 (addC C V (r + 3) 0 3 (addUpTo C V r zeros 9))) = filled C V r := addAll_zeros C V r
/-- The same with ten chunks done. -/
theorem add_last2 (C : ℕ → ℕ → BitVec 32) (V : ℕ → ℕ → F .f32) (r : ℕ) :
    addC C V (r + 3) 2 3 (addC C V (r + 3) 1 3 (addUpTo C V r zeros 10)) = filled C V r := addAll_zeros C V r
/-- The last two rows' chunks cleared after the first two rows', from filled rows: zeros. -/
theorem clear_last (C : ℕ → ℕ → BitVec 32) (V : ℕ → ℕ → F .f32) (r : ℕ) :
    clearC C (r + 3) 2 3 (clearC C (r + 3) 1 3 (clearC C (r + 3) 0 3 (clearC C (r + 2) 2 2 (clearC C (r + 2) 1 2 (clearC C (r + 2) 0 2
      (clearUpTo C r (filled C V r) 6)))))) = (zeros : Vec F S4x4096 .f32) := clearAll_filled C V r

/-- What a trip finds of a buffer: after the first trip the copy of group `g` in flight, at the first trip zeros and the semaphore at rest. -/
def Prev (f6 : Buf (Elt F) ((thr d L).loc cc0_scratch1)) (f5 : Buf (Elt F) ((thr d L).loc cc0_scratch0)) (W : Buf (Elt F) (wLoc d))
    (b : Memref sig .scVector .vmem S4x4096 .f32) (sm : DmaSem sig) (g : Fin 32) (t : ℕ) : sProp 𝕄 :=
  if 0 < t then Fl d L f6 f5 W b sm g else iprop(Buf4 d L b zeros ∗ semVal (thr d L, .dma sm) 0)

/-- What a trip's wait delivers: after the first trip the rows of group `g`, written. -/
def Got (W : Buf (Elt F) (wLoc d)) (g : Fin 32) (t : ℕ) : sProp 𝕄 := if 0 < t then WG d L g W else iprop(emp)

/-- Values added at columns loaded before: the values loaded, and added at the columns `v` in row `g` of the buffer. -/
theorem wp_addAt {b : Memref sig .scVector .vmem S4x4096 .f32} {A : Vec F S4x4096 .f32} {off : Fin 2 → Nat}
    {inb' : ∀ a, off a + S1x16.size a ≤ S128x48.size a} (r ch g : ℕ) (hoff : off = ![r, 16 * ch]) {bv : BitVec 32} (hbv : bv.toNat = g)
    {row c : IVec S16 32} (hrow : row = fun _ => bv) (hc : ∀ x, c x = CT d L f6 r (16 * ch + (x 0).val))
    {v : Vec F S1x16 .f32 → Vec F S16 .f32} (hv : v = fun ld => shapeCast S16 ld shapeCasts_S1x16_S16)
    {hl' : (sV : Memref sig .scVector .vmem S128x48 .f32).view.LoadsAt (Rect.unit (s := S128x48) off S1x16.size inb').toLoadRect}
    {hb : ∀ a x, ((![row, c] : Fin 2 → IVec S16 32) a x).toNat < S4x4096.size a}
    {hs : (b.access (.whole S4x4096)).Stores Finset.univ} {α : Type}
    {k : PUnit → Prog (TpuEff nD τ sig (Elt F) Λ₀ (thr d L).2) α} {Q : α → sProp 𝕄} :
    iprop(TabC d L f6 ∗ TabV d L f5 ∗ Buf4 d L b A)
      ⊢ iprop((iprop(TabC d L f6 ∗ TabV d L f5 ∗ Buf4 d L b (addC (CT d L f6) (VT d L f5) r ch g A)) -∗ wp frame (wpE (defs₀ (F := F)) 𝒱₀ (thr d L) none) Set.univ (k ⟨⟩) Q)
      -∗ wp frame (wpE (defs₀ (F := F)) 𝒱₀ (thr d L) none) Set.univ (.op (.load sV (Rect.unit (s := S128x48) off S1x16.size inb').toLoadRect hl') fun ld' : Vec F S1x16 .f32 =>
          SparseCore.vectorStoreIdx b ![row, c] (v ld') (fun _ => 1#1) true hb hs >>= k) Q) := by
  subst hrow hv
  iintro ⟨HC, HV, HB⟩ Hk
  iapply (wp_vals d L) $$ HV
  iintro HV
  iapply (wp_storeIdx d L) $$ HB
  rw [storeIdx_add (CT d L f6) (VT d L f5) r ch g A bv hbv _ _ hc (vals_read d L f5 off inb' r ch hoff)]
  iintro HB
  iapply Hk
  isplitl [HC]; · iassumption
  isplitl [HV] <;> iassumption

/-- Columns loaded and checked, for a store in row `g` later on. -/
theorem wp_colsAt (hC : ∀ r k, (CT d L f6 r k).toNat < 4096) {off : Fin 2 → Nat}
    {inb : ∀ a, off a + S1x16.size a ≤ S128x48.size a} (r ch g : ℕ) (hoff : off = ![r, 16 * ch]) {bv : BitVec 32} (hbv : bv.toNat = g) (hg : g < 4)
    {row : IVec S16 32} (hrow : row = fun _ => bv)
    {hl : (sC : Memref sig .scVector .vmem S128x48 .i32).view.LoadsAt (Rect.unit (s := S128x48) off S1x16.size inb).toLoadRect}
    {P : Vec F S1x16 .i32 → Prop} {dec : ∀ ld, Decidable (P ld)}
    (hP : ∀ ld, (∀ a x, ((![row, shapeCast S16 ld shapeCasts_S1x16_S16] : Fin 2 → IVec S16 32) a x).toNat < S4x4096.size a) → P ld)
    {α : Type} {k : ∀ ld : Vec F S1x16 .i32, PLift (P ld) → Prog (TpuEff nD τ sig (Elt F) Λ₀ (thr d L).2) α} {Q : α → sProp 𝕄} :
    TabC d L f6 ⊢ iprop((∀ (ld : Vec F S1x16 .i32) (hw : PLift (P ld)),
          ⌜∀ x, shapeCast S16 ld shapeCasts_S1x16_S16 x = CT d L f6 r (16 * ch + (x 0).val)⌝ -∗ TabC d L f6 -∗ wp frame (wpE (defs₀ (F := F)) 𝒱₀ (thr d L) none) Set.univ (k ld hw) Q)
      -∗ wp frame (wpE (defs₀ (F := F)) 𝒱₀ (thr d L) none) Set.univ (.op (.load sC (Rect.unit (s := S128x48) off S1x16.size inb).toLoadRect hl) fun ld : Vec F S1x16 .i32 => .op (.assume (P ld) (dec ld)) (k ld)) Q) := by
  subst hrow
  iintro HC Hk
  iapply (wp_cols d L) $$ HC
  iintro HC
  have hr := chunk_in_range d L hC off inb hoff hbv hg
  rw [wp_assume_of _ _ _ _ (hP _ hr)]
  iapply Hk $$ [] HC
  ipureintro
  exact cols_read d L f6 off inb r ch hoff

/-- The first half of a clearing phase of buffer `sB0`: the wait for its copy, which delivers the group of rows written, and two of its four rows. -/
theorem part2 (hC : ∀ r k, (CT d L f6 r k).toNat < 4096) (t : Fin k0_t2_loop.trips) (v11 : BitVec 32) (h : k0_cond1 t = 1#1) :
    iprop(Transfers.MayWaits (thr d L) none O ∗ Fl d L f6 f5 W sB0 cc0_scratch4.sem (prev0 t) ∗ OW d L O W₀ ∗ TabC d L f6)
      ⊢ wp frame (wpE (defs₀ (F := F)) 𝒱₀ (thr d L) none) Set.univ (k0_part2 L vV (Memref.isWhole_whole _) cV (Memref.isWhole_whole _) wV (Memref.isWhole_whole _) sV (Memref.isWhole_whole _) sC (Memref.isWhole_whole _)
          sB0 (Memref.isWhole_whole _) sB1 (Memref.isWhole_whole _) cc0_scratch4 cc0_scratch5 cc0_scoped0 cc0_scoped1 k0_pay1 t v11 h)
        fun r => iprop(⌜r = ⟨k0_pay4, 2#32⟩⌝ ∗ semVal (thr d L, .dma cc0_scratch4.sem) 0 ∗ WG d L (prev0 t) W ∗ OW d L O W₀ ∗ TabC d L f6
          ∗ Buf4 d L sB0 (clearUpTo (CT d L f6) (4 * (prev0 t).val) (filled (CT d L f6) (VT d L f5) (4 * (prev0 t).val)) 6)) := by
  obtain ⟨⟨o1, o2, o3⟩, ⟨o4, o5, o6⟩, -, -⟩ := off_clear0 t h
  simp only [k0_part2_eq_skeleton]; unfold k0_part2_skel
  simp only [Prog.lift, Prog.bind_op, Prog.bind_ret, Prog.pure_eq_ret]
  unfold Fl
  iintro ⟨Hmw, HF, HO, HC⟩
  iapply (wp_wait d L (W₀ := W₀) rfl) $$ [Hmw HF HO]
  · isplitl [Hmw]; · iexact Hmw
    isplitl [HF] <;> iassumption
  iintro ⟨⟨HW, HB⟩, Hs, HO⟩
  icombine HC HB as H
  iapply (wp_clear d L hC (4 * (prev0 t).val) 0 0 o1 (bv := 0#32) rfl (by decide) rfl rfl (fun _ h _ => h)) $$ H
  iintro H
  iapply (wp_clear d L hC (4 * (prev0 t).val) 1 0 o2 (bv := 0#32) rfl (by decide) rfl rfl (fun _ h _ => h)) $$ H
  iintro H
  iapply (wp_clear d L hC (4 * (prev0 t).val) 2 0 o3 (bv := 0#32) rfl (by decide) rfl rfl (fun _ h _ => h)) $$ H
  iintro H
  iapply (wp_clear d L hC (4 * (prev0 t).val + 1) 0 1 o4 (bv := 1#32) rfl (by decide) rfl rfl (fun _ h _ => h)) $$ H
  iintro H
  iapply (wp_clear d L hC (4 * (prev0 t).val + 1) 1 1 o5 (bv := 1#32) rfl (by decide) rfl rfl (fun _ h _ => h)) $$ H
  iintro H
  iapply (wp_clear d L hC (4 * (prev0 t).val + 1) 2 1 o6 (bv := 1#32) rfl (by decide) rfl rfl (fun _ h _ => h)) $$ H
  iintro H
  icases H with ⟨HC, HB⟩
  rw [wp_ret]; imodintro
  isplitr; · ipureintro; rfl
  isplitl [Hs]; · iexact Hs
  isplitl [HW]; · iexact HW
  isplitl [HO]; · iexact HO
  isplitl [HC]; · iassumption
  iexact HB

/-- The first half of a clearing phase of buffer `sB1`: the wait for its copy, which delivers the group of rows written, and two of its four rows. -/
theorem part3 (hC : ∀ r k, (CT d L f6 r k).toNat < 4096) (t : Fin k0_t2_loop.trips) (v80 : BitVec 32) (h : k0_cond2 t = 1#1) :
    iprop(Transfers.MayWaits (thr d L) none O ∗ Fl d L f6 f5 W sB1 cc0_scratch5.sem (prev1 t) ∗ OW d L O W₀ ∗ TabC d L f6)
      ⊢ wp frame (wpE (defs₀ (F := F)) 𝒱₀ (thr d L) none) Set.univ (k0_part3 L vV (Memref.isWhole_whole _) cV (Memref.isWhole_whole _) wV (Memref.isWhole_whole _) sV (Memref.isWhole_whole _) sC (Memref.isWhole_whole _)
          sB0 (Memref.isWhole_whole _) sB1 (Memref.isWhole_whole _) cc0_scratch4 cc0_scratch5 cc0_scoped0 cc0_scoped1 k0_pay1 t v80 h)
        fun r => iprop(⌜r = ⟨k0_pay5, 2#32⟩⌝ ∗ semVal (thr d L, .dma cc0_scratch5.sem) 0 ∗ WG d L (prev1 t) W ∗ OW d L O W₀ ∗ TabC d L f6
          ∗ Buf4 d L sB1 (clearUpTo (CT d L f6) (4 * (prev1 t).val) (filled (CT d L f6) (VT d L f5) (4 * (prev1 t).val)) 6)) := by
  obtain ⟨⟨o1, o2, o3⟩, ⟨o4, o5, o6⟩, -, -⟩ := off_clear1 t h
  simp only [k0_part3_eq_skeleton]; unfold k0_part3_skel
  simp only [Prog.lift, Prog.bind_op, Prog.bind_ret, Prog.pure_eq_ret]
  unfold Fl
  iintro ⟨Hmw, HF, HO, HC⟩
  iapply (wp_wait d L (W₀ := W₀) rfl) $$ [Hmw HF HO]
  · isplitl [Hmw]; · iexact Hmw
    isplitl [HF] <;> iassumption
  iintro ⟨⟨HW, HB⟩, Hs, HO⟩
  icombine HC HB as H
  iapply (wp_clear d L hC (4 * (prev1 t).val) 0 0 o1 (bv := 0#32) rfl (by decide) rfl rfl (fun _ h _ => h)) $$ H
  iintro H
  iapply (wp_clear d L hC (4 * (prev1 t).val) 1 0 o2 (bv := 0#32) rfl (by decide) rfl rfl (fun _ h _ => h)) $$ H
  iintro H
  iapply (wp_clear d L hC (4 * (prev1 t).val) 2 0 o3 (bv := 0#32) rfl (by decide) rfl rfl (fun _ h _ => h)) $$ H
  iintro H
  iapply (wp_clear d L hC (4 * (prev1 t).val + 1) 0 1 o4 (bv := 1#32) rfl (by decide) rfl rfl (fun _ h _ => h)) $$ H
  iintro H
  iapply (wp_clear d L hC (4 * (prev1 t).val + 1) 1 1 o5 (bv := 1#32) rfl (by decide) rfl rfl (fun _ h _ => h)) $$ H
  iintro H
  iapply (wp_clear d L hC (4 * (prev1 t).val + 1) 2 1 o6 (bv := 1#32) rfl (by decide) rfl rfl (fun _ h _ => h)) $$ H
  iintro H
  icases H with ⟨HC, HB⟩
  rw [wp_ret]; imodintro
  isplitr; · ipureintro; rfl
  isplitl [Hs]; · iexact Hs
  isplitl [HW]; · iexact HW
  isplitl [HO]; · iexact HO
  isplitl [HC]; · iassumption
  iexact HB

/-- The first trip finds the first buffer clear; a later trip waits for its copy and clears it. Then the first row of group `own0` and the columns of
the second row's first chunk. -/
theorem part4 (hC : ∀ r k, (CT d L f6 r k).toNat < 4096) (t : Fin k0_t2_loop.trips) (c c' : BitVec 32) :
    iprop(Transfers.MayWaits (thr d L) none O ∗ Prev d L f6 f5 W sB0 cc0_scratch4.sem (prev0 t) t.val ∗ OW d L O W₀ ∗ TabC d L f6 ∗ TabV d L f5)
      ⊢ wp frame (wpE (defs₀ (F := F)) 𝒱₀ (thr d L) none) Set.univ (k0_part4 L vV (Memref.isWhole_whole _) cV (Memref.isWhole_whole _) wV (Memref.isWhole_whole _) sV (Memref.isWhole_whole _) sC (Memref.isWhole_whole _)
          sB0 (Memref.isWhole_whole _) sB1 (Memref.isWhole_whole _) cc0_scratch4 cc0_scratch5 cc0_scoped0 cc0_scoped1 k0_pay1 c c' t)
        fun r => iprop(⌜r.2.2.1 = (fun _ => 1#32) ∧ ∀ x, r.2.2.2.2.1 x = CT d L f6 (4 * (own0 t).val + 1) (16 * 0 + (x 0).val)⌝
          ∗ semVal (thr d L, .dma cc0_scratch4.sem) 0 ∗ Got d L W (prev0 t) t.val ∗ OW d L O W₀
          ∗ TabC d L f6 ∗ TabV d L f5 ∗ Buf4 d L sB0 (addUpTo (CT d L f6) (VT d L f5) (4 * (own0 t).val) zeros 3)) := by
  simp only [k0_part4_eq_skeleton]; unfold k0_part4_skel
  simp only [Prog.lift, Prog.bind_op, Prog.bind_ret, Prog.pure_eq_ret]
  refine dite_wp d L iprop(semVal (thr d L, .dma cc0_scratch4.sem) 0 ∗ Got d L W (prev0 t) t.val ∗ OW d L O W₀ ∗ TabC d L f6 ∗ TabV d L f5 ∗ Buf4 d L sB0 zeros)
    ?_ (fun hrest hc => ?_) (fun hc => ?_)
  · obtain ⟨⟨o1, o2, o3⟩, ⟨o4, o5, o6⟩, -, -⟩ := off_add0 t
    iintro ⟨Hs, HG, HO, H⟩
    iapply (wp_add d L hC (4 * (own0 t).val) 0 0 o1 (bv := 0#32) rfl (by decide) rfl rfl (fun _ h => h)) $$ H
    iintro H
    iapply (wp_add d L hC (4 * (own0 t).val) 1 0 o2 (bv := 0#32) rfl (by decide) rfl rfl (fun _ h => h)) $$ H
    iintro H
    iapply (wp_add d L hC (4 * (own0 t).val) 2 0 o3 (bv := 0#32) rfl (by decide) rfl rfl (fun _ h => h)) $$ H
    iintro H
    icases H with ⟨HC, HV, HB⟩
    iapply (wp_colsAt d L hC (4 * (own0 t).val + 1) 0 1 o4 (bv := 1#32) rfl (by decide) rfl (fun _ h => h)) $$ HC
    iintro %ld %hw %hld HC
    rw [wp_ret]; imodintro
    isplitr; · ipureintro; exact ⟨rfl, hld⟩
    isplitl [Hs]; · iexact Hs
    isplitl [HG]; · iexact HG
    isplitl [HO]; · iexact HO
    isplitl [HC]; · iexact HC
    isplitl [HV]; · iexact HV
    iexact HB
  · have hp := (cond1_iff t).1 hc
    obtain ⟨-, -, ⟨o7, o8, o9⟩, ⟨o10, o11, o12⟩⟩ := off_clear0 t hc
    rw [Prev, if_pos hp, wp_bind]
    iintro ⟨#Hmw, HF, HO, HC, HV⟩
    iapply (wp_wand _ _ _) $$ [HF HO HC]
    · iapply (part2 d L hC t _ hc) $$ [HF HO HC]
      isplitr; · iexact Hmw
      isplitl [HF]; · iexact HF
      isplitl [HO] <;> iassumption
    iintro %r ⟨%hr, Hs, HW, HO, HC, HB⟩
    subst hr
    simp only [Prog.lift, Prog.bind_op, Prog.bind_ret, Prog.pure_eq_ret]
    icombine HC HB as H
    iapply (wp_clear d L hC (4 * (prev0 t).val + 2) 0 2 o7 (bv := 2#32) rfl (by decide) rfl rfl (fun _ h _ => h)) $$ H
    iintro H
    iapply (wp_clear d L hC (4 * (prev0 t).val + 2) 1 2 o8 (bv := 2#32) rfl (by decide) rfl rfl (fun _ h _ => h)) $$ H
    iintro H
    iapply (wp_clear d L hC (4 * (prev0 t).val + 2) 2 2 o9 (bv := 2#32) rfl (by decide) rfl rfl (fun _ h _ => h)) $$ H
    iintro H
    iapply (wp_clear d L hC (4 * (prev0 t).val + 3) 0 3 o10 (bv := 3#32) rfl (by decide) rfl rfl (fun _ h _ => h)) $$ H
    iintro H
    iapply (wp_clear d L hC (4 * (prev0 t).val + 3) 1 3 o11 (bv := 3#32) rfl (by decide) rfl rfl (fun _ h _ => h)) $$ H
    iintro H
    iapply (wp_clear d L hC (4 * (prev0 t).val + 3) 2 3 o12 (bv := 3#32) rfl (by decide) rfl rfl (fun _ h _ => h)) $$ H
    iintro H
    icases H with ⟨HC, HB⟩
    iapply hrest
    isplitl [Hs]; · iexact Hs
    isplitl [HW]; · rw [Got, if_pos hp]; iexact HW
    isplitl [HO]; · iexact HO
    isplitl [HC]; · iexact HC
    isplitl [HV]; · iexact HV
    iapply (Entails.of_eq (congrArg (Buf4 d L sB0) (clear_last (CT d L f6) (VT d L f5) (4 * (prev0 t).val)))) $$ HB
  · have hp : ¬0 < t.val := fun h => hc ((cond1_iff t).2 h)
    rw [Prev, if_neg hp, Got, if_neg hp]
    iintro ⟨-, ⟨HB, Hs⟩, HO, HC, HV⟩
    isplitl [Hs]; · iexact Hs
    isplitr; · iempintro
    isplitl [HO]; · iexact HO
    isplitl [HC]; · iexact HC
    isplitl [HV]; · iexact HV
    iexact HB

/-- The second and third rows of group `own0`. -/
theorem part5 (hC : ∀ r k, (CT d L f6 r k).toNat < 4096) (t : Fin k0_t2_loop.trips) (v11 v32 : BitVec 32) (v30 : IVec S16 32) (v34 : Vec F S16 .i32)
    (hw : k0_chk16 v30 v34) (h30 : v30 = fun _ => 1#32) (h34 : ∀ x, v34 x = CT d L f6 (4 * (own0 t).val + 1) (16 * 0 + (x 0).val)) :
    iprop(TabC d L f6 ∗ TabV d L f5 ∗ Buf4 d L sB0 (addUpTo (CT d L f6) (VT d L f5) (4 * (own0 t).val) zeros 3))
      ⊢ wp frame (wpE (defs₀ (F := F)) 𝒱₀ (thr d L) none) Set.univ (k0_part5 L vV (Memref.isWhole_whole _) cV (Memref.isWhole_whole _) wV (Memref.isWhole_whole _) sV (Memref.isWhole_whole _) sC (Memref.isWhole_whole _)
          sB0 (Memref.isWhole_whole _) sB1 (Memref.isWhole_whole _) cc0_scratch4 cc0_scratch5 cc0_scoped0 cc0_scoped1 t v11 v30 v32 v34 hw)
        fun r => iprop(⌜r = 3#32⌝ ∗ TabC d L f6 ∗ TabV d L f5 ∗ Buf4 d L sB0 (addUpTo (CT d L f6) (VT d L f5) (4 * (own0 t).val) zeros 9)) := by
  obtain ⟨-, ⟨o4, o5, o6⟩, ⟨o7, o8, o9⟩, -⟩ := off_add0 t
  simp only [k0_part5_eq_skeleton]; unfold k0_part5_skel
  simp only [Prog.lift, Prog.bind_op, Prog.bind_ret, Prog.pure_eq_ret]
  iintro H
  iapply (wp_addAt d L (4 * (own0 t).val + 1) 0 1 o4 (bv := 1#32) rfl h30 h34 rfl) $$ H
  iintro H
  iapply (wp_add d L hC (4 * (own0 t).val + 1) 1 1 o5 (bv := 1#32) rfl (by decide) h30 rfl (fun _ h => h)) $$ H
  iintro H
  iapply (wp_add d L hC (4 * (own0 t).val + 1) 2 1 o6 (bv := 1#32) rfl (by decide) h30 rfl (fun _ h => h)) $$ H
  iintro H
  iapply (wp_add d L hC (4 * (own0 t).val + 2) 0 2 o7 (bv := 2#32) rfl (by decide) rfl rfl (fun _ h => h)) $$ H
  iintro H
  iapply (wp_add d L hC (4 * (own0 t).val + 2) 1 2 o8 (bv := 2#32) rfl (by decide) rfl rfl (fun _ h => h)) $$ H
  iintro H
  iapply (wp_add d L hC (4 * (own0 t).val + 2) 2 2 o9 (bv := 2#32) rfl (by decide) rfl rfl (fun _ h => h)) $$ H
  iintro H
  rw [wp_ret]; imodintro
  isplitr; · ipureintro; rfl
  iexact H

/-- The last row of group `own0` and the issue of its copy; then the second buffer is waited for and cleared, as the first was. -/
theorem part6 (hW : DenseOn d L f6 f5 W) {fd : Buf (Elt F) (wLoc d)} (hC : ∀ r k, (CT d L f6 r k).toNat < 4096) (t : Fin k0_t2_loop.trips) (v2 a11 v11 : BitVec 32) :
    iprop(Transfers.MayWaits (thr d L) none O ∗ Prev d L f6 f5 W sB1 cc0_scratch5.sem (prev1 t) t.val ∗ OW d L O W₀ ∗ TabC d L f6 ∗ TabV d L f5
        ∗ semVal (thr d L, .dma cc0_scratch4.sem) 0 ∗ WG d L (own0 t) fd ∗ Buf4 d L sB0 (addUpTo (CT d L f6) (VT d L f5) (4 * (own0 t).val) zeros 9))
      ⊢ wp frame (wpE (defs₀ (F := F)) 𝒱₀ (thr d L) none) Set.univ (k0_part6 L vV (Memref.isWhole_whole _) cV (Memref.isWhole_whole _) wV (Memref.isWhole_whole _) sV (Memref.isWhole_whole _) sC (Memref.isWhole_whole _)
          sB0 (Memref.isWhole_whole _) sB1 (Memref.isWhole_whole _) cc0_scratch4 cc0_scratch5 cc0_scoped0 cc0_scoped1 v2 k0_pay1 t a11 v11 3#32)
        fun r => iprop(⌜r.2.1 = k0_pay18⌝ ∗ Fl d L f6 f5 W sB0 cc0_scratch4.sem (own0 t) ∗ semVal (thr d L, .dma cc0_scratch5.sem) 0 ∗ Got d L W (prev1 t) t.val
          ∗ OW d L O W₀ ∗ TabC d L f6 ∗ TabV d L f5 ∗ Buf4 d L sB1 zeros) := by
  obtain ⟨-, -, -, ⟨o10, o11, o12⟩⟩ := off_add0 t
  simp only [k0_part6_eq_skeleton]; unfold k0_part6_skel
  simp only [Prog.lift, Prog.bind_op, Prog.bind_ret, Prog.pure_eq_ret]
  iintro ⟨Hmw, HF, HO, HC, HV, Hs0, HW0, HB0⟩
  icombine HC HV HB0 as H
  iapply (wp_add d L hC (4 * (own0 t).val + 3) 0 3 o10 (bv := 3#32) rfl (by decide) rfl rfl (fun _ h => h)) $$ H
  iintro H
  iapply (wp_add d L hC (4 * (own0 t).val + 3) 1 3 o11 (bv := 3#32) rfl (by decide) rfl rfl (fun _ h => h)) $$ H
  iintro H
  iapply (wp_add d L hC (4 * (own0 t).val + 3) 2 3 o12 (bv := 3#32) rfl (by decide) rfl rfl (fun _ h => h)) $$ H
  iintro H
  icases H with ⟨HC, HV, HB0⟩
  iapply (wp_issue d L hW (Or.inl rfl) (own0 t) (by rw [k0_off31_eq]; simp only [own0, base]; congr 1; omega)) $$ [HB0 HW0 Hs0]
  · isplitl [HB0]
    · iapply (Entails.of_eq (congrArg (Buf4 d L sB0) (add_last (CT d L f6) (VT d L f5) (4 * (own0 t).val)))) $$ HB0
    isplitl [HW0] <;> iassumption
  iintro HF0
  iapply (dite_wp d L (S0 := iprop(Transfers.MayWaits (thr d L) none O ∗ Prev d L f6 f5 W sB1 cc0_scratch5.sem (prev1 t) t.val
      ∗ OW d L O W₀ ∗ TabC d L f6 ∗ TabV d L f5 ∗ Fl d L f6 f5 W sB0 cc0_scratch4.sem (own0 t)))
    iprop(semVal (thr d L, .dma cc0_scratch5.sem) 0 ∗ Got d L W (prev1 t) t.val ∗ OW d L O W₀ ∗ TabC d L f6 ∗ TabV d L f5 ∗ Buf4 d L sB1 zeros
      ∗ Fl d L f6 f5 W sB0 cc0_scratch4.sem (own0 t))
    ?_ (fun hrest hc => ?_) (fun hc => ?_)) $$ [Hmw HF HO HC HV HF0]
  rotate_right
  · isplitl [Hmw]; · iexact Hmw
    isplitl [HF]; · iexact HF
    isplitl [HO]; · iexact HO
    isplitl [HC]; · iexact HC
    isplitl [HV] <;> iassumption
  · iintro ⟨Hs, HG, HO, HC, HV, HB, HF0⟩
    rw [wp_ret]; imodintro
    isplitr; · ipureintro; rfl
    isplitl [HF0]; · iexact HF0
    isplitl [Hs]; · iexact Hs
    isplitl [HG]; · iexact HG
    isplitl [HO]; · iexact HO
    isplitl [HC]; · iexact HC
    isplitl [HV]; · iexact HV
    iexact HB
  · have hp := (cond2_iff t).1 hc
    obtain ⟨-, -, ⟨o7, o8, o9⟩, ⟨o10, o11, o12⟩⟩ := off_clear1 t hc
    rw [Prev, if_pos hp, wp_bind]
    iintro ⟨#Hmw, HF, HO, HC, HV, HF0⟩
    iapply (wp_wand _ _ _) $$ [HF HO HC]
    · iapply (part3 d L hC t _ hc) $$ [HF HO HC]
      isplitr; · iexact Hmw
      isplitl [HF]; · iexact HF
      isplitl [HO] <;> iassumption
    iintro %r ⟨%hr, Hs, HW, HO, HC, HB⟩
    subst hr
    simp only [Prog.lift, Prog.bind_op, Prog.bind_ret, Prog.pure_eq_ret]
    icombine HC HB as H
    iapply (wp_clear d L hC (4 * (prev1 t).val + 2) 0 2 o7 (bv := 2#32) rfl (by decide) rfl rfl (fun _ h _ => h)) $$ H
    iintro H
    iapply (wp_clear d L hC (4 * (prev1 t).val + 2) 1 2 o8 (bv := 2#32) rfl (by decide) rfl rfl (fun _ h _ => h)) $$ H
    iintro H
    iapply (wp_clear d L hC (4 * (prev1 t).val + 2) 2 2 o9 (bv := 2#32) rfl (by decide) rfl rfl (fun _ h _ => h)) $$ H
    iintro H
    iapply (wp_clear d L hC (4 * (prev1 t).val + 3) 0 3 o10 (bv := 3#32) rfl (by decide) rfl rfl (fun _ h _ => h)) $$ H
    iintro H
    iapply (wp_clear d L hC (4 * (prev1 t).val + 3) 1 3 o11 (bv := 3#32) rfl (by decide) rfl rfl (fun _ h _ => h)) $$ H
    iintro H
    iapply (wp_clear d L hC (4 * (prev1 t).val + 3) 2 3 o12 (bv := 3#32) rfl (by decide) rfl rfl (fun _ h _ => h)) $$ H
    iintro H
    icases H with ⟨HC, HB⟩
    iapply hrest
    isplitl [Hs]; · iexact Hs
    isplitl [HW]; · rw [Got, if_pos hp]; iexact HW
    isplitl [HO]; · iexact HO
    isplitl [HC]; · iexact HC
    isplitl [HV]; · iexact HV
    isplitl [HB]
    · iapply (Entails.of_eq (congrArg (Buf4 d L sB1) (clear_last (CT d L f6) (VT d L f5) (4 * (prev1 t).val)))) $$ HB
    iexact HF0
  · have hp : ¬0 < t.val := fun h => hc ((cond2_iff t).2 h)
    rw [Prev, if_neg hp, Got, if_neg hp]
    iintro ⟨-, ⟨HB, Hs⟩, HO, HC, HV, HF0⟩
    isplitl [Hs]; · iexact Hs
    isplitr; · iempintro
    isplitl [HO]; · iexact HO
    isplitl [HC]; · iexact HC
    isplitl [HV]; · iexact HV
    isplitl [HB]; · iexact HB
    iexact HF0

/-- The first two rows of group `own1`, but for the second row's last chunk, whose columns are loaded. -/
theorem part7 (hC : ∀ r k, (CT d L f6 r k).toNat < 4096) (t : Fin k0_t2_loop.trips) (v80 v86 : BitVec 32) (v84 : IVec S16 32) (h84 : v84 = k0_pay18) :
    iprop(TabC d L f6 ∗ TabV d L f5 ∗ Buf4 d L sB1 zeros)
      ⊢ wp frame (wpE (defs₀ (F := F)) 𝒱₀ (thr d L) none) Set.univ (k0_part7 L vV (Memref.isWhole_whole _) cV (Memref.isWhole_whole _) wV (Memref.isWhole_whole _) sV (Memref.isWhole_whole _) sC (Memref.isWhole_whole _)
          sB0 (Memref.isWhole_whole _) sB1 (Memref.isWhole_whole _) cc0_scratch4 cc0_scratch5 cc0_scoped0 cc0_scoped1 t v80 v84 v86)
        fun r => iprop(⌜r.1 = (fun _ => 1#32) ∧ ∀ x, r.2.2.1 x = CT d L f6 (4 * (own1 t).val + 1) (16 * 2 + (x 0).val)⌝
          ∗ TabC d L f6 ∗ TabV d L f5 ∗ Buf4 d L sB1 (addUpTo (CT d L f6) (VT d L f5) (4 * (own1 t).val) zeros 5)) := by
  subst h84
  obtain ⟨⟨o1, o2, o3⟩, ⟨o4, o5, o6⟩, -, -⟩ := off_add1 t
  simp only [k0_part7_eq_skeleton]; unfold k0_part7_skel
  simp only [Prog.lift, Prog.bind_op, Prog.bind_ret, Prog.pure_eq_ret]
  iintro H
  iapply (wp_add d L hC (4 * (own1 t).val) 0 0 o1 (bv := 0#32) rfl (by decide) rfl rfl (fun _ h => h)) $$ H
  iintro H
  iapply (wp_add d L hC (4 * (own1 t).val) 1 0 o2 (bv := 0#32) rfl (by decide) rfl rfl (fun _ h => h)) $$ H
  iintro H
  iapply (wp_add d L hC (4 * (own1 t).val) 2 0 o3 (bv := 0#32) rfl (by decide) rfl rfl (fun _ h => h)) $$ H
  iintro H
  iapply (wp_add d L hC (4 * (own1 t).val + 1) 0 1 o4 (bv := 1#32) rfl (by decide) rfl rfl (fun _ h => h)) $$ H
  iintro H
  iapply (wp_add d L hC (4 * (own1 t).val + 1) 1 1 o5 (bv := 1#32) rfl (by decide) rfl rfl (fun _ h => h)) $$ H
  iintro H
  icases H with ⟨HC, HV, HB⟩
  iapply (wp_colsAt d L hC (4 * (own1 t).val + 1) 2 1 o6 (bv := 1#32) rfl (by decide) rfl (fun _ h => h)) $$ HC
  iintro %ld %hw %hld HC
  rw [wp_ret]; imodintro
  isplitr; · ipureintro; exact ⟨rfl, hld⟩
  isplitl [HC]; · iexact HC
  isplitl [HV]; · iexact HV
  iexact HB

/-- The rest of the second row of group `own1`, its third row and the first chunk of its last row; the columns of the next chunk are loaded. -/
theorem part8 (hC : ∀ r k, (CT d L f6 r k).toNat < 4096) (t : Fin k0_t2_loop.trips) (v80 v101 : BitVec 32) (v99 : IVec S16 32) (v111 : Vec F S16 .i32)
    (hw : k0_chk42 v99 v111) (h99 : v99 = fun _ => 1#32) (h111 : ∀ x, v111 x = CT d L f6 (4 * (own1 t).val + 1) (16 * 2 + (x 0).val)) :
    iprop(TabC d L f6 ∗ TabV d L f5 ∗ Buf4 d L sB1 (addUpTo (CT d L f6) (VT d L f5) (4 * (own1 t).val) zeros 5))
      ⊢ wp frame (wpE (defs₀ (F := F)) 𝒱₀ (thr d L) none) Set.univ (k0_part8 L vV (Memref.isWhole_whole _) cV (Memref.isWhole_whole _) wV (Memref.isWhole_whole _) sV (Memref.isWhole_whole _) sC (Memref.isWhole_whole _)
          sB0 (Memref.isWhole_whole _) sB1 (Memref.isWhole_whole _) cc0_scratch4 cc0_scratch5 cc0_scoped0 cc0_scoped1 t v80 v99 v101 v111 hw)
        fun r => iprop(⌜r.1 = (fun _ => 3#32) ∧ ∀ x, shapeCast S16 r.2.2 shapeCasts_S1x16_S16 x = CT d L f6 (4 * (own1 t).val + 3) (16 * 1 + (x 0).val)⌝
          ∗ TabC d L f6 ∗ TabV d L f5 ∗ Buf4 d L sB1 (addUpTo (CT d L f6) (VT d L f5) (4 * (own1 t).val) zeros 10)) := by
  obtain ⟨-, ⟨o4, o5, o6⟩, ⟨o7, o8, o9⟩, ⟨o10, o11, o12⟩⟩ := off_add1 t
  simp only [k0_part8_eq_skeleton]; unfold k0_part8_skel
  simp only [Prog.lift, Prog.bind_op, Prog.bind_ret, Prog.pure_eq_ret]
  iintro H
  iapply (wp_addAt d L (4 * (own1 t).val + 1) 2 1 o6 (bv := 1#32) rfl h99 h111 rfl) $$ H
  iintro H
  iapply (wp_add d L hC (4 * (own1 t).val + 2) 0 2 o7 (bv := 2#32) rfl (by decide) rfl rfl (fun _ h => h)) $$ H
  iintro H
  iapply (wp_add d L hC (4 * (own1 t).val + 2) 1 2 o8 (bv := 2#32) rfl (by decide) rfl rfl (fun _ h => h)) $$ H
  iintro H
  iapply (wp_add d L hC (4 * (own1 t).val + 2) 2 2 o9 (bv := 2#32) rfl (by decide) rfl rfl (fun _ h => h)) $$ H
  iintro H
  iapply (wp_add d L hC (4 * (own1 t).val + 3) 0 3 o10 (bv := 3#32) rfl (by decide) rfl rfl (fun _ h => h)) $$ H
  iintro H
  icases H with ⟨HC, HV, HB⟩
  iapply (wp_cols d L) $$ HC
  iintro HC
  rw [wp_ret]; imodintro
  isplitr; · ipureintro; exact ⟨rfl, cols_read d L f6 _ _ (4 * (own1 t).val + 3) 1 o11⟩
  isplitl [HC]; · iexact HC
  isplitl [HV]; · iexact HV
  iexact HB

end Tile

end Cert.Proof

end
-- ==== Proof.Trip.lean ====
/-
  One trip of each of the tile's loops: the loop that zeroes the two buffers, sixteen columns a trip, and the main loop, two groups of four rows a trip.
-/
module

public import proofs.«01_k».proof.Proof.Parts

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Tile

variable [FloatOps F] (d : Dev nD) (L : grid0.Coords)

/-! ## The zeroing loop -/

/-- Sixteen columns of one row of a buffer set to zero. -/
def zeroAt (r c : ℕ) (A : Vec F S4x4096 .f32) : Vec F S4x4096 .f32 :=
  fun j => if (j 0).val = r ∧ 16 * c ≤ (j 1).val ∧ (j 1).val < 16 * c + 16 then Z else A j

/-- The columns before `n` are zero. -/
def ZeroTo (n : ℕ) (A : Vec F S4x4096 .f32) : Prop := ∀ j, (j 1).val < n → A j = Z

theorem zeroTo_next {A : Vec F S4x4096 .f32} {c : ℕ} (h : ZeroTo (16 * c) A) :
    ZeroTo (16 * (c + 1)) (zeroAt 3 c (zeroAt 2 c (zeroAt 1 c (zeroAt 0 c A)))) := by
  intro j hj
  by_cases hc : (j 1).val < 16 * c
  · simp only [zeroAt, h j hc, ite_self]
  · have h1 : 16 * c ≤ (j 1).val := by omega
    have h2 : (j 1).val < 16 * c + 16 := by omega
    rcases lt4 j with h | h | h | h <;> simp [zeroAt, h, h1, h2]

theorem zeroTo_all {A : Vec F S4x4096 .f32} (h : ZeroTo 4096 A) : A = zeros := funext fun j => h j (j 1).isLt

/-- A store of zeros at sixteen columns of a row, with the load of them before it that the kernel does not use. -/
theorem wp_zero {b : Memref sig .scVector .vmem S4x4096 .f32} (hb : b = sB0 ∨ b = sB1) {A : Vec F S4x4096 .f32} {off : Fin 2 → Nat}
    {inb inb' : ∀ a, off a + S1x16.size a ≤ S4x4096.size a} (r c : ℕ) (hoff : off = ![r, 16 * c]) {z : Vec F S16 .f32} (hz : z = fun _ => Z)
    {hl : b.view.LoadsAt (Rect.unit (s := S4x4096) off S1x16.size inb).toLoadRect}
    {hs : (b.access (Rect.unit (s := S4x4096) off S1x16.size inb')).Stores Finset.univ} {hm}
    {α : Type} {k : PUnit → Prog (TpuEff nD τ sig (Elt F) Λ₀ (thr d L).2) α} {Q : α → sProp 𝕄} :
    Buf4 d L b A ⊢ iprop((Buf4 d L b (zeroAt r c A) -∗ wp frame (wpE (defs₀ (F := F)) 𝒱₀ (thr d L) none) Set.univ (k ⟨⟩) Q)
      -∗ wp frame (wpE (defs₀ (F := F)) 𝒱₀ (thr d L) none) Set.univ (.op (.load b (Rect.unit (s := S4x4096) off S1x16.size inb).toLoadRect hl) fun _ =>
        .op (.store b (Rect.unit (s := S4x4096) off S1x16.size inb') (shapeCast S1x16 z shapeCasts_S16_S1x16) Finset.univ hs hm) k) Q) := by
  subst hz
  rw [buf4_view d L hb, buf4_view d L hb]
  have hset : b.view.set = Finset.univ := by rcases hb with rfl | rfl <;> exact View.set_whole _
  rw [hset]
  iintro ⟨%f, %hf, HB⟩ Hk
  iapply (wp_load 𝒱₀ (thr d L) none Set.univ (Finset.subset_univ _)) $$ HB
  iintro HB
  iapply (wp_store 𝒱₀ (thr d L) none Set.univ (m := b) (r := Rect.unit (s := S4x4096) off S1x16.size inb') (f := f) (S := Finset.univ)
    (Finset.subset_univ _)) $$ HB
  iintro HB
  iapply Hk
  iexists _
  isplitr
  rotate_left
  · iexact HB
  · ipureintro
    have hmem : ∀ j : S4x4096.Idx, j ∈ (Rect.unit (s := S4x4096) off S1x16.size inb').set ↔ (j 0).val = r ∧ 16 * c ≤ (j 1).val ∧ (j 1).val < 16 * c + 16 := by
      intro j
      subst hoff
      rw [Rect.mem_set_unit]
      show (∀ a : Fin 2, _) ↔ _
      simp only [Fin.forall_fin_two]
      simp
      omega
    funext j
    unfold zeroAt
    by_cases hj : j ∈ (Rect.unit (s := S4x4096) off S1x16.size inb').set
    · rw [if_pos ((hmem j).1 hj)]
      obtain ⟨x, rfl⟩ := (Rect.unit (s := S4x4096) off S1x16.size inb').exists_idx_of_mem hj
      exact View.read_slice_write_emb _ _ _ (Finset.mem_univ x)
    · rw [if_neg (fun h => hj ((hmem j).2 h))]
      exact (View.read_slice_write_of_not_mem _ _ _ _ (by rwa [Rect.map_emb_univ])).trans (congrFun hf j)

/-- A trip's stores but the last. -/
theorem part1 (t : Fin k0_t1_loop.trips) (A0 A1 : Vec F S4x4096 .f32) (c c' : BitVec 32) :
    iprop(Buf4 d L sB0 A0 ∗ Buf4 d L sB1 A1)
      ⊢ wp frame (wpE (defs₀ (F := F)) 𝒱₀ (thr d L) none) Set.univ (k0_part1 L vV (Memref.isWhole_whole _) cV (Memref.isWhole_whole _) wV (Memref.isWhole_whole _) sV (Memref.isWhole_whole _) sC (Memref.isWhole_whole _)
          sB0 (Memref.isWhole_whole _) sB1 (Memref.isWhole_whole _) cc0_scratch4 cc0_scratch5 cc0_scoped0 cc0_scoped1 k0_pay1 c c' t)
        fun _ => iprop(Buf4 d L sB0 (zeroAt 3 t.val (zeroAt 2 t.val (zeroAt 1 t.val (zeroAt 0 t.val A0))))
          ∗ Buf4 d L sB1 (zeroAt 2 t.val (zeroAt 1 t.val (zeroAt 0 t.val A1)))) := by
  simp only [k0_part1_eq_skeleton]; unfold k0_part1_skel
  simp only [Prog.lift, Prog.bind_op, Prog.bind_ret, Prog.pure_eq_ret]
  iintro ⟨HA, HB⟩
  iapply (wp_zero d L (Or.inl rfl) 0 t.val (k0_off2_eq t) rfl) $$ HA
  iintro HA
  iapply (wp_zero d L (Or.inr rfl) 0 t.val (k0_off2_eq t) rfl) $$ HB
  iintro HB
  iapply (wp_zero d L (Or.inl rfl) 1 t.val (k0_off3_eq t) rfl) $$ HA
  iintro HA
  iapply (wp_zero d L (Or.inr rfl) 1 t.val (k0_off3_eq t) rfl) $$ HB
  iintro HB
  iapply (wp_zero d L (Or.inl rfl) 2 t.val (k0_off4_eq t) rfl) $$ HA
  iintro HA
  iapply (wp_zero d L (Or.inr rfl) 2 t.val (k0_off4_eq t) rfl) $$ HB
  iintro HB
  iapply (wp_zero d L (Or.inl rfl) 3 t.val (k0_off5_eq t) rfl) $$ HA
  iintro HA
  rw [wp_ret]; imodintro
  isplitl [HA] <;> iassumption

/-- The zeroing loop's invariant: in both buffers the columns of the trips done are zero. -/
def ZInv (n : ℕ) : sProp 𝕄 := iprop(∃ A0 A1, ⌜ZeroTo (16 * n) A0 ∧ ZeroTo (16 * n) A1⌝ ∗ Buf4 d L sB0 A0 ∗ Buf4 d L sB1 A1)

/-- One trip of the zeroing loop. -/
theorem zero_trip (t : Fin k0_t1_loop.trips) (u : Unit) :
    ZInv (F := F) d L t.val ⊢ wp frame (wpE (defs₀ (F := F)) 𝒱₀ (thr d L) none) Set.univ (k0_t1_body L vV (Memref.isWhole_whole _) cV (Memref.isWhole_whole _) wV (Memref.isWhole_whole _) sV (Memref.isWhole_whole _) sC (Memref.isWhole_whole _)
          sB0 (Memref.isWhole_whole _) sB1 (Memref.isWhole_whole _) cc0_scratch4 cc0_scratch5 cc0_scoped0 cc0_scoped1 t u) fun _ => ZInv (F := F) d L (t.val + 1) := by
  unfold ZInv k0_t1_body
  simp only [Prog.lift, Prog.bind_op, Prog.bind_ret, Prog.pure_eq_ret, wp_bind]
  iintro ⟨%A0, %A1, %h, HA, HB⟩
  iapply (wp_wand _ _ _) $$ [HA HB]
  · iapply (part1 d L t A0 A1) $$ [HA HB]
    isplitl [HA] <;> iassumption
  iintro %r ⟨HA, HB⟩
  iapply (wp_zero d L (Or.inr rfl) 3 t.val (k0_off5_eq t) rfl) $$ HB
  iintro HB
  rw [wp_ret]; imodintro
  iexists _, _
  isplitr
  rotate_left
  · isplitl [HA] <;> iassumption
  · ipureintro; exact ⟨zeroTo_next h.1, zeroTo_next h.2⟩

/-! ## The main loop -/

variable {f6 : Buf (Elt F) ((thr d L).loc cc0_scratch1)} {f5 : Buf (Elt F) ((thr d L).loc cc0_scratch0)} {W : Buf (Elt F) (wLoc d)}
variable {O : CellTallies nD τ sig (HIx 1)} {W₀ : Waits sig (HIx 1)}

/-- One trip of the main loop: what was in flight is delivered, and the trip's own two groups go out. -/
theorem main_trip (hW : DenseOn d L f6 f5 W) (fd : Buf (Elt F) (wLoc d)) (hC : ∀ r k, (CT d L f6 r k).toNat < 4096) (t : Fin k0_t2_loop.trips) (u : Unit) (v2 : BitVec 32) :
    iprop(□ Transfers.MayWaits (thr d L) none O ∗ Prev d L f6 f5 W sB0 cc0_scratch4.sem (prev0 t) t.val ∗ Prev d L f6 f5 W sB1 cc0_scratch5.sem (prev1 t) t.val
        ∗ OW d L O W₀ ∗ TabC d L f6 ∗ TabV d L f5 ∗ WG d L (own0 t) fd ∗ WG d L (own1 t) fd)
      ⊢ wp frame (wpE (defs₀ (F := F)) 𝒱₀ (thr d L) none) Set.univ (k0_t2_body L vV (Memref.isWhole_whole _) cV (Memref.isWhole_whole _) wV (Memref.isWhole_whole _) sV (Memref.isWhole_whole _) sC (Memref.isWhole_whole _)
          sB0 (Memref.isWhole_whole _) sB1 (Memref.isWhole_whole _) cc0_scratch4 cc0_scratch5 cc0_scoped0 cc0_scoped1 v2 t u)
        fun _ => iprop(Fl d L f6 f5 W sB0 cc0_scratch4.sem (own0 t) ∗ Fl d L f6 f5 W sB1 cc0_scratch5.sem (own1 t)
          ∗ Got d L W (prev0 t) t.val ∗ Got d L W (prev1 t) t.val ∗ OW d L O W₀ ∗ TabC d L f6 ∗ TabV d L f5) := by
  obtain ⟨-, -, -, ⟨o10, o11, o12⟩⟩ := off_add1 t
  unfold k0_t2_body
  simp only [Prog.lift, Prog.bind_op, Prog.bind_ret, Prog.pure_eq_ret, wp_bind]
  iintro ⟨#Hmw, HP0, HP1, HO, HC, HV, HW0, HW1⟩
  iapply (wp_wand _ _ _) $$ [HP0 HO HC HV]
  · iapply (part4 d L hC t) $$ [HP0 HO HC HV]
    isplitr; · iexact Hmw
    isplitl [HP0]; · iexact HP0
    isplitl [HO]; · iexact HO
    isplitl [HC] <;> iassumption
  iintro %r4 ⟨%h4, Hs0, HG0, HO, H⟩
  iapply (wp_wand _ _ _) $$ [H]
  · iapply (part5 d L hC t _ _ _ _ _ h4.1 h4.2) $$ H
  iintro %r5 ⟨%h5, HC, HV, HB0⟩
  subst h5
  iapply (wp_wand _ _ _) $$ [HP1 HO HC HV Hs0 HW0 HB0]
  · iapply (part6 d L hW hC t) $$ [HP1 HO HC HV Hs0 HW0 HB0]
    isplitr; · iexact Hmw
    isplitl [HP1]; · iexact HP1
    isplitl [HO]; · iexact HO
    isplitl [HC]; · iexact HC
    isplitl [HV]; · iexact HV
    isplitl [Hs0]; · iexact Hs0
    isplitl [HW0]; · iexact HW0
    iexact HB0
  iintro %r6 ⟨%h6, HF0, Hs1, HG1, HO, H⟩
  iapply (wp_wand _ _ _) $$ [H]
  · iapply (part7 d L hC t _ _ _ h6) $$ H
  iintro %r7 ⟨%h7, H⟩
  iapply (wp_wand _ _ _) $$ [H]
  · iapply (part8 d L hC t _ _ _ _ _ h7.1 h7.2) $$ H
  iintro %r8 ⟨%h8, H⟩
  have hr : k0_chk47 r8.1 (shapeCast S16 r8.2.2 shapeCasts_S1x16_S16) := by
    intro a x
    match a with
    | 0 => exact lt_of_eq_of_lt (congrArg BitVec.toNat (congrFun h8.1 x)) (by decide)
    | 1 => exact lt_of_eq_of_lt (congrArg BitVec.toNat (h8.2 x)) (hC _ _)
  rw [wp_assume_of _ _ _ _ hr]
  iapply (wp_addAt d L (4 * (own1 t).val + 3) 1 3 o11 (bv := 3#32) rfl h8.1 h8.2 rfl) $$ H
  iintro H
  iapply (wp_add d L hC (4 * (own1 t).val + 3) 2 3 o12 (bv := 3#32) rfl (by decide) h8.1 rfl (fun _ h => h)) $$ H
  iintro ⟨HC, HV, HB1⟩
  iapply (wp_issue d L hW (Or.inr rfl) (own1 t) (by rw [k0_off57_eq]; simp only [own1, base]; congr 1; omega)) $$ [HB1 HW1 Hs1]
  · isplitl [HB1]
    · iapply (Entails.of_eq (congrArg (Buf4 d L sB1) (add_last2 (CT d L f6) (VT d L f5) (4 * (own1 t).val)))) $$ HB1
    isplitl [HW1] <;> iassumption
  iintro HF1
  rw [wp_ret]; imodintro
  isplitl [HF0]; · iexact HF0
  isplitl [HF1]; · iexact HF1
  isplitl [HG0]; · iexact HG0
  isplitl [HG1]; · iexact HG1
  isplitl [HO]; · iexact HO
  isplitl [HC] <;> iassumption

end Tile

end Cert.Proof

end
-- ==== Proof.Tile.lean ====
/-
  A tile's task: fetch its 128 rows of the two padded tables, zero its buffers, run the main loop, wait for the last two copies. From the tables' contents
  it leaves, in its rows of the dense matrix, what they say.
-/
module

public import proofs.«01_k».proof.Proof.Trip

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The dense matrix, from the padded tables -/

/-- The padded tables by row and column number. -/
def CH (fc : Vec F S4096x48 .i32) (n k : ℕ) : BitVec 32 := fc (ixH n k)
def VH (fv : Vec F S4096x48 .f32) (n k : ℕ) : F .f32 := fv (ixH n k)

section Tile

variable [FloatOps F]

/-- The dense matrix: row `n` holds, at each column, the sum of the values of row `n` whose column it is. -/
def WD (fc : Vec F S4096x48 .i32) (fv : Vec F S4096x48 .f32) : Vec F S4096x4096 .f32 := fun j => dense (CH (F := F) fc) (VH fv) (j 0).val (j 1).val

theorem putC_congr {C C' : ℕ → ℕ → BitVec 32} {V V' : ℕ → ℕ → F .f32} {r r' : ℕ} (ch m : ℕ) (hch : ch < 3)
    (hC : ∀ k < 48, C r k = C' r' k) (hV : ∀ k < 48, V r k = V' r' k) (acc : F .f32) : putC C V r ch m acc = putC C' V' r' ch m acc := by
  unfold putC
  congr 1
  funext acc l
  have hl := l.isLt
  rw [hC _ (by omega), hV _ (by omega)]

theorem dense_congr {C C' : ℕ → ℕ → BitVec 32} {V V' : ℕ → ℕ → F .f32} {r r' : ℕ} (m : ℕ)
    (hC : ∀ k < 48, C r k = C' r' k) (hV : ∀ k < 48, V r k = V' r' k) : dense C V r m = dense C' V' r' m := by
  unfold dense
  rw [putC_congr 0 m (by decide) hC hV, putC_congr 1 m (by decide) hC hV, putC_congr 2 m (by decide) hC hV]

variable (d : Dev nD) (L : grid0.Coords)

/-! ## The fetches -/

/-- Where a fetch reads: row `base + r` of the padded table. -/
theorem fetch_idx (off : Fin 2 → Nat) (inb : ∀ a, off a + S128x48.size a ≤ S4096x48.size a) (hoff : off = ![base L, 0]) (r k : ℕ) (hr : r < 128) (hk : k < 48) :
    (Rect.unit (s := S4096x48) off S128x48.size inb).emb (ixT r k) = ixH (base L + r) k := by
  subst hoff
  have h1 : (L 1).val < 16 := (L 1).isLt
  have h0 : (L 0).val < 2 := (L 0).isLt
  funext a
  apply Fin.ext
  match a with
  | 0 => simp [ixT, ixH, Rect.emb_apply, LoadRect.idx_apply, base]; omega
  | 1 => simp [ixT, ixH, Rect.emb_apply, LoadRect.idx_apply]

/-- The tables a tile holds after its fetches. -/
def tabC (fc : Buf (Elt F) (cLoc d)) : Buf (Elt F) ((thr d L).loc cc0_scratch1) :=
  (cV.slice (Rect.unit (s := S4096x48) (k0_off1 L) S128x48.size (k0_off1_inb L)) (fun _ => rfl)).view.read (Elt F) fc
def tabV (fv : Buf (Elt F) (vLoc d)) : Buf (Elt F) ((thr d L).loc cc0_scratch0) :=
  (vV.slice (Rect.unit (s := S4096x48) (k0_off1 L) S128x48.size (k0_off1_inb L)) (fun _ => rfl)).view.read (Elt F) fv

theorem tabC_eq (fc : Buf (Elt F) (cLoc d)) (r k : ℕ) (hr : r < 128) (hk : k < 48) : CT d L (tabC d L fc) r k = CH (F := F) fc (base L + r) k := by
  unfold CT CH tabC
  rw [← fetch_idx L (k0_off1 L) (k0_off1_inb L) (k0_off1_eq L) r k hr hk]
  exact View.read_apply _ _
theorem tabV_eq (fv : Buf (Elt F) (vLoc d)) (r k : ℕ) (hr : r < 128) (hk : k < 48) : VT d L (tabV d L fv) r k = VH fv (base L + r) k := by
  unfold VT VH tabV
  rw [← fetch_idx L (k0_off1 L) (k0_off1_inb L) (k0_off1_eq L) r k hr hk]
  exact View.read_apply _ _
theorem tabC_lt (fc : Buf (Elt F) (cLoc d)) (h : ∀ i, ((fc : Vec F S4096x48 .i32) i).toNat < 4096) (r k : ℕ) : (CT d L (tabC d L fc) r k).toNat < 4096 := by
  unfold CT tabC
  refine lt_of_eq_of_lt (congrArg BitVec.toNat (View.read_apply _ _)) (h _)

/-- The dense matrix holds what the tile's tables say. -/
theorem denseOn (fc : Buf (Elt F) (cLoc d)) (fv : Buf (Elt F) (vLoc d)) : DenseOn d L (tabC d L fc) (tabV d L fv) (WD fc fv) := by
  intro r hr i hi
  show dense _ _ _ _ = _
  rw [hi]
  exact (dense_congr _ (fun k hk => tabC_eq d L fc r k hr hk) (fun k hk => tabV_eq d L fv r k hr hk)).symm

variable {O : CellTallies nD τ sig (HIx 1)} {W₀ : Waits sig (HIx 1)}

/-- A fetch of rows of an array into a scratch buffer, and its wait. -/
theorem wp_fetch {e : EltTy} {b : Memref sig .scVector .vmem S128x48 e} {sm : DmaSem sig}
    {src : Memref sig .scVector .hbm S128x48 e} {S : Finset (Idx (src.view.loc (thr d L)))} (hS : src.view.set = S)
    (hpos : 0 < b.view.dmaCredit) {fa : Buf (Elt F) (src.view.loc (thr d L))} {fb : Buf (Elt F) (b.view.loc (thr d L))}
    {hsrc : src.view.WordExact} {hdst : b.view.WordExact} {hsrc' : src.view.WordExact} {hdst' : b.view.WordExact}
    {hsem : DmaTarget.Typed (nD := nD) .hbm (.dma sm) (.here (p := (thr d L).2) b)}
    {α : Type} {k : PUnit → Prog (TpuEff nD τ sig (Elt F) Λ₀ (thr d L).2) α} {Q : α → sProp 𝕄} :
    iprop(Transfers.MayWaits (thr d L) none O ∗ (src.view.loc (thr d L) ↦[S]{fullShare} fa) ∗ (b.view.loc (thr d L) ↦[b.view.set]{fullShare} fb)
        ∗ semVal (thr d L, .dma sm) 0 ∗ OW d L O W₀)
      ⊢ iprop((iprop((src.view.loc (thr d L) ↦[S]{fullShare} fa)
            ∗ (b.view.loc (thr d L) ↦[b.view.set]{fullShare} (b.view.write (Elt F) fb (src.view.read (Elt F) fa) Finset.univ))
            ∗ semVal (thr d L, .dma sm) 0 ∗ OW d L O W₀) -∗ wp frame (wpE (defs₀ (F := F)) 𝒱₀ (thr d L) none) Set.univ (k ⟨⟩) Q)
        -∗ wp frame (wpE (defs₀ (F := F)) 𝒱₀ (thr d L) none) Set.univ (.op (.enqueueDma src (.here b) (.dma sm) hsrc hdst hsem) fun _ => .op (.waitDma2 sm src b hsrc' hdst') k) Q) := by
  subst hS
  iintro ⟨Hmw, Ha, Hb, Hs, HO⟩ Hk
  iapply (Transfers.wp_dmaLocal EC 𝒱₀ (thr d L) none (src := src) (dst := b) (fd := fb) (fs := fa) (q := fullShare) none b.view.dmaCredit rfl hpos
    (subset_refl _)) $$ [Ha Hb Hs]
  · isplitl [Ha]; · iexact Ha
    isplitl [Hb] <;> iassumption
  iintro HF
  iapply (wp_wait d L (W₀ := W₀) rfl) $$ [Hmw HF HO]
  · isplitl [Hmw]; · iexact Hmw
    isplitl [HF] <;> iassumption
  iintro ⟨⟨Hb, Ha⟩, Hs, HO⟩
  iapply Hk
  isplitl [Ha]; · iexact Ha
  isplitl [Hb]; · iexact Hb
  isplitl [Hs] <;> iassumption

/-! ## The main loop -/

/-- The groups in flight after `n` trips. -/
def fl0 (n : ℕ) : Fin 32 := Fin.ofNat 32 (2 * n - 2)
def fl1 (n : ℕ) : Fin 32 := Fin.ofNat 32 (2 * n - 1)
/-- The groups written and those not begun, after `n` trips. -/
def doneG (n : ℕ) : Finset (Fin 32) := Finset.univ.filter fun g => g.val + 2 < 2 * n
def todoG (n : ℕ) : Finset (Fin 32) := Finset.univ.filter fun g => 2 * n ≤ g.val

theorem prev0_eq (t : Fin k0_t2_loop.trips) : prev0 t = fl0 t.val := by
  have := trips_lt t; apply Fin.ext; simp [prev0, fl0]; omega
theorem prev1_eq (t : Fin k0_t2_loop.trips) : prev1 t = fl1 t.val := by
  have := trips_lt t; apply Fin.ext; simp [prev1, fl1]; omega
theorem own0_eq (t : Fin k0_t2_loop.trips) : own0 t = fl0 (t.val + 1) := by
  have := trips_lt t; apply Fin.ext; simp [own0, fl0]; omega
theorem own1_eq (t : Fin k0_t2_loop.trips) : own1 t = fl1 (t.val + 1) := by
  have := trips_lt t; apply Fin.ext; simp [own1, fl1]; omega

/-- A trip begins its own two groups. -/
theorem todo_step (t : Fin k0_t2_loop.trips) : todoG t.val = insert (own0 t) (insert (own1 t) (todoG (t.val + 1))) := by
  have := trips_lt t
  ext g
  simp only [todoG, own0, own1, Finset.mem_filter, Finset.mem_univ, true_and, Finset.mem_insert, Fin.ext_iff]
  omega
/-- After the first trip, a trip's waits finish the two groups in flight. -/
theorem done_step {n : ℕ} (h0 : 0 < n) (h : n ≤ 16) : insert (fl0 n) (insert (fl1 n) (doneG n)) = Finset.univ.filter fun g : Fin 32 => g.val < 2 * n := by
  ext g
  have := g.isLt
  simp [doneG, fl0, fl1, Fin.ext_iff]
  omega
theorem done_next (n : ℕ) : doneG (n + 1) = Finset.univ.filter fun g : Fin 32 => g.val < 2 * n := by
  ext g; simp only [doneG, Finset.mem_filter, Finset.mem_univ, true_and]; omega

/-- Two groups finished join those finished before. -/
theorem done_join (W : Buf (Elt F) (wLoc d)) {n : ℕ} (h0 : 0 < n) (h : n ≤ 16) :
    (bigSep (Finset.univ.filter fun g : Fin 32 => g.val < 2 * n) fun g => WG d L g W)
      = (iprop(WG d L (fl0 n) W ∗ WG d L (fl1 n) W ∗ bigSep (doneG n) fun g => WG d L g W) : sProp 𝕄) := by
  rw [← done_step h0 h, SparseCore.bigSep_insert' (by simp [doneG, fl0, fl1, Fin.ext_iff]; omega),
    SparseCore.bigSep_insert' (by simp [doneG, fl1]; omega)]

theorem got_pos (W : Buf (Elt F) (wLoc d)) {g g' : Fin 32} (h : g = g') {n : ℕ} (h0 : 0 < n) : Got d L W g n = (WG d L g' W : sProp 𝕄) := by
  rw [Got, if_pos h0, h]

variable {f6 : Buf (Elt F) ((thr d L).loc cc0_scratch1)} {f5 : Buf (Elt F) ((thr d L).loc cc0_scratch0)} {W : Buf (Elt F) (wLoc d)}

/-- The main loop's invariant after `n` trips. -/
def MInv (f6 : Buf (Elt F) ((thr d L).loc cc0_scratch1)) (f5 : Buf (Elt F) ((thr d L).loc cc0_scratch0)) (W fd : Buf (Elt F) (wLoc d))
    (O : CellTallies nD τ sig (HIx 1)) (W₀ : Waits sig (HIx 1)) (n : ℕ) : sProp 𝕄 :=
  iprop(□ Transfers.MayWaits (thr d L) none O ∗ Prev d L f6 f5 W sB0 cc0_scratch4.sem (fl0 n) n ∗ Prev d L f6 f5 W sB1 cc0_scratch5.sem (fl1 n) n
    ∗ OW d L O W₀ ∗ TabC d L f6 ∗ TabV d L f5 ∗ (bigSep (doneG n) fun g => WG d L g W) ∗ bigSep (todoG n) fun g => WG d L g fd)

/-- One trip keeps it. -/
theorem main_step (hW : DenseOn d L f6 f5 W) (fd : Buf (Elt F) (wLoc d)) (hC : ∀ r k, (CT d L f6 r k).toNat < 4096) (t : Fin k0_t2_loop.trips) (u : Unit) (v2 : BitVec 32) :
    MInv d L f6 f5 W fd O W₀ t.val
      ⊢ wp frame (wpE (defs₀ (F := F)) 𝒱₀ (thr d L) none) Set.univ (k0_t2_body L vV (Memref.isWhole_whole _) cV (Memref.isWhole_whole _) wV (Memref.isWhole_whole _) sV (Memref.isWhole_whole _) sC (Memref.isWhole_whole _)
          sB0 (Memref.isWhole_whole _) sB1 (Memref.isWhole_whole _) cc0_scratch4 cc0_scratch5 cc0_scoped0 cc0_scoped1 v2 t u)
        fun _ => MInv d L f6 f5 W fd O W₀ (t.val + 1) := by
  have ht := trips_lt t
  unfold MInv
  rw [todo_step t, SparseCore.bigSep_insert' (by simp [todoG, own0, own1, Fin.ext_iff]), SparseCore.bigSep_insert' (by simp [todoG, own1]; omega),
    ← prev0_eq, ← prev1_eq]
  iintro ⟨#Hmw, HP0, HP1, HO, HC, HV, HD, HW0, HW1, HT⟩
  iapply (wp_wand _ _ _) $$ [HP0 HP1 HO HC HV HW0 HW1]
  · iapply (main_trip d L hW fd hC t u v2) $$ [HP0 HP1 HO HC HV HW0 HW1]
    isplitr; · iexact Hmw
    isplitl [HP0]; · iexact HP0
    isplitl [HP1]; · iexact HP1
    isplitl [HO]; · iexact HO
    isplitl [HC]; · iexact HC
    isplitl [HV]; · iexact HV
    isplitl [HW0] <;> iassumption
  iintro %r ⟨HF0, HF1, HG0, HG1, HO, HC, HV⟩
  rw [own0_eq, own1_eq, Prev, if_pos (Nat.succ_pos _), Prev, if_pos (Nat.succ_pos _)]
  isplitr; · iexact Hmw
  isplitl [HF0]; · iexact HF0
  isplitl [HF1]; · iexact HF1
  isplitl [HO]; · iexact HO
  isplitl [HC]; · iexact HC
  isplitl [HV]; · iexact HV
  isplitr [HT]
  · by_cases hp : 0 < t.val
    · iapply (Entails.of_eq ((congrArg (fun s => bigSep s fun g => WG d L g W) (done_next t.val)).trans (done_join d L W hp (by omega))).symm)
      ihave HG0 := (Entails.of_eq (got_pos d L W (prev0_eq t) hp)) $$ HG0
      ihave HG1 := (Entails.of_eq (got_pos d L W (prev1_eq t) hp)) $$ HG1
      isplitl [HG0]; · iexact HG0
      isplitl [HG1]; · iexact HG1
      iexact HD
    · iapply (Entails.of_eq (congrArg (fun s => bigSep s fun g => WG d L g W) (show doneG t.val = doneG (t.val + 1) from by
        ext g; simp only [doneG, Finset.mem_filter, Finset.mem_univ, _root_.true_and]; omega)))
      iexact HD
  · iexact HT

/-! ## The task -/

/-- A table of values in its scratch buffer, by its own view. -/
theorem tabV_view (f : Buf (Elt F) ((thr d L).loc cc0_scratch0)) : ((sV : Memref sig .scVector .vmem S128x48 .f32).view.loc (thr d L) ↦[sV.view.set]{fullShare} f : sProp 𝕄)
    = iprop((thr d L).loc cc0_scratch0 ↦{fullShare} f) := by simp only [Memref.view_whole, View.set_whole]
theorem tabC_view (f : Buf (Elt F) ((thr d L).loc cc0_scratch1)) : ((sC : Memref sig .scVector .vmem S128x48 .i32).view.loc (thr d L) ↦[sC.view.set]{fullShare} f : sProp 𝕄)
    = iprop((thr d L).loc cc0_scratch1 ↦{fullShare} f) := by simp only [Memref.view_whole, View.set_whole]

/-- The elements a fetch reads. -/
theorem vView_set : (vV.slice (Rect.unit (s := S4096x48) (k0_off1 L) S128x48.size (k0_off1_inb L)) (fun _ => rfl)).view.set = tSet (tileNo L) := by
  rw [← tSlice_set L (k0_off1 L) (k0_off1_inb L) (k0_off1_eq L)]
  show ((View.whole (main_v0_scv : Ref sig .scVector)).slice _).set = _
  rw [View.set_slice]; exact Finset.map_refl
theorem cView_set : (cV.slice (Rect.unit (s := S4096x48) (k0_off1 L) S128x48.size (k0_off1_inb L)) (fun _ => rfl)).view.set = tSet (tileNo L) := by
  rw [← tSlice_set L (k0_off1 L) (k0_off1_inb L) (k0_off1_eq L)]
  show ((View.whole (main_v1_scv : Ref sig .scVector)).slice _).set = _
  rw [View.set_slice]; exact Finset.map_refl

/-- The rows of the padded tables that a tile reads, at their contents. -/
def VRows (fv : Buf (Elt F) (vLoc d)) : sProp 𝕄 := iprop(vLoc d ↦[tSet (tileNo L)]{fullShare} fv)
def CRows (fc : Buf (Elt F) (cLoc d)) : sProp 𝕄 := iprop(cLoc d ↦[tSet (tileNo L)]{fullShare} fc)
/-- A tile's rows of the dense matrix, group by group. -/
def WRows (fw : Buf (Elt F) (wLoc d)) : sProp 𝕄 := bigSep Finset.univ fun g : Fin 32 => WG d L g fw

/-- The scratch of a tile: its tables and buffers at some contents, its four semaphores at zero. -/
def Scratch : sProp 𝕄 :=
  iprop((∃ f, (thr d L).loc cc0_scratch0 ↦{fullShare} f) ∗ (∃ f, (thr d L).loc cc0_scratch1 ↦{fullShare} f)
    ∗ (∃ f, (thr d L).loc cc0_scratch2 ↦{fullShare} f) ∗ (∃ f, (thr d L).loc cc0_scratch3 ↦{fullShare} f))
def Sems : sProp 𝕄 :=
  iprop(semVal (thr d L, .dma cc0_scratch4.sem) 0 ∗ semVal (thr d L, .dma cc0_scratch5.sem) 0 ∗ semVal (thr d L, .dma cc0_scoped0.sem) 0
    ∗ semVal (thr d L, .dma cc0_scoped1.sem) 0)

/-- A buffer of four rows at its location. -/
theorem buf0_loc (A : Vec F S4x4096 .f32) : Buf4 d L sB0 A ⊢ (iprop(∃ f, (thr d L).loc cc0_scratch2 ↦{fullShare} f) : sProp 𝕄) := by
  rw [buf4_view d L (Or.inl rfl)]
  simp only [Memref.view_whole, View.set_whole]
  iintro ⟨%f, -, H⟩
  iexists f; iexact H
theorem buf1_loc (A : Vec F S4x4096 .f32) : Buf4 d L sB1 A ⊢ (iprop(∃ f, (thr d L).loc cc0_scratch3 ↦{fullShare} f) : sProp 𝕄) := by
  rw [buf4_view d L (Or.inr rfl)]
  simp only [Memref.view_whole, View.set_whole]
  iintro ⟨%f, -, H⟩
  iexists f; iexact H
theorem loc_buf0 (f : Buf (Elt F) ((thr d L).loc cc0_scratch2)) : ((thr d L).loc cc0_scratch2 ↦{fullShare} f : sProp 𝕄) ⊢ Buf4 d L sB0 f := by
  rw [buf4_view d L (Or.inl rfl)]
  simp only [Memref.view_whole, View.set_whole]
  iintro H
  iexists f
  isplitr; · ipureintro; exact View.read_whole _ _
  iexact H
theorem loc_buf1 (f : Buf (Elt F) ((thr d L).loc cc0_scratch3)) : ((thr d L).loc cc0_scratch3 ↦{fullShare} f : sProp 𝕄) ⊢ Buf4 d L sB1 f := by
  rw [buf4_view d L (Or.inr rfl)]
  simp only [Memref.view_whole, View.set_whole]
  iintro H
  iexists f
  isplitr; · ipureintro; exact View.read_whole _ _
  iexact H

/-- The tables after their fetches. -/
theorem tabV_got (f : Buf (Elt F) ((thr d L).loc cc0_scratch0)) (fv : Buf (Elt F) (vLoc d)) :
    ((sV : Memref sig .scVector .vmem S128x48 .f32).view.loc (thr d L) ↦[sV.view.set]{fullShare} (sV.view.write (Elt F) f
      ((vV.slice (Rect.unit (s := S4096x48) (k0_off1 L) S128x48.size (k0_off1_inb L)) (fun _ => rfl)).view.read (Elt F) fv) Finset.univ) : sProp 𝕄)
    = TabV d L (tabV d L fv) := by
  rw [tabV_view]; exact congrArg _ (View.write_whole_univ _ _ _)
theorem tabC_got (f : Buf (Elt F) ((thr d L).loc cc0_scratch1)) (fc : Buf (Elt F) (cLoc d)) :
    ((sC : Memref sig .scVector .vmem S128x48 .i32).view.loc (thr d L) ↦[sC.view.set]{fullShare} (sC.view.write (Elt F) f
      ((cV.slice (Rect.unit (s := S4096x48) (k0_off1 L) S128x48.size (k0_off1_inb L)) (fun _ => rfl)).view.read (Elt F) fc) Finset.univ) : sProp 𝕄)
    = TabC d L (tabC d L fc) := by
  rw [tabC_view]; exact congrArg _ (View.write_whole_univ _ _ _)

/-- Nothing zeroed, to begin with; everything, after the last trip. -/
theorem zInv_first (A0 A1 : Vec F S4x4096 .f32) : iprop(Buf4 d L sB0 A0 ∗ Buf4 d L sB1 A1) ⊢ (ZInv d L 0 : sProp 𝕄) := by
  unfold ZInv
  iintro ⟨HA, HB⟩
  iexists A0, A1
  isplitr; · ipureintro; exact ⟨fun j h => absurd h (by omega), fun j h => absurd h (by omega)⟩
  isplitl [HA] <;> iassumption
theorem zInv_last : (ZInv d L k0_t1_loop.trips : sProp 𝕄) ⊢ iprop(Buf4 (F := F) d L sB0 zeros ∗ Buf4 (F := F) d L sB1 zeros) := by
  unfold ZInv
  iintro ⟨%A0, %A1, %h, HA, HB⟩
  obtain rfl := zeroTo_all h.1
  obtain rfl := zeroTo_all h.2
  isplitl [HA] <;> iassumption

/-- The main loop's invariant before its first trip, and after its last. -/
theorem mInv_first (fd : Buf (Elt F) (wLoc d)) : iprop(□ Transfers.MayWaits (thr d L) none O ∗ Buf4 (F := F) d L sB0 zeros ∗ Buf4 (F := F) d L sB1 zeros
      ∗ semVal (thr d L, .dma cc0_scratch4.sem) 0 ∗ semVal (thr d L, .dma cc0_scratch5.sem) 0 ∗ OW d L O W₀ ∗ TabC d L f6 ∗ TabV d L f5 ∗ WRows d L fd)
    ⊢ MInv d L f6 f5 W fd O W₀ 0 := by
  unfold MInv Prev WRows
  rw [if_neg (by omega), if_neg (by omega), show doneG 0 = ∅ by decide, show todoG 0 = Finset.univ by decide, bigSep_empty]
  iintro ⟨#Hmw, HA, HB, HS0, HS1, HO, HC, HV, HW⟩
  isplitr; · iexact Hmw
  isplitl [HA HS0]
  · isplitl [HA] <;> iassumption
  isplitl [HB HS1]
  · isplitl [HB] <;> iassumption
  isplitl [HO]; · iexact HO
  isplitl [HC]; · iexact HC
  isplitl [HV]; · iexact HV
  isplitr; · iempintro
  iexact HW
theorem mInv_last (fd : Buf (Elt F) (wLoc d)) : MInv d L f6 f5 W fd O W₀ k0_t2_loop.trips
    ⊢ iprop(□ Transfers.MayWaits (thr d L) none O ∗ Fl d L f6 f5 W sB0 cc0_scratch4.sem (fl0 16) ∗ Fl d L f6 f5 W sB1 cc0_scratch5.sem (fl1 16)
      ∗ OW d L O W₀ ∗ TabC d L f6 ∗ TabV d L f5 ∗ bigSep (doneG 16) fun g => WG d L g W) := by
  rw [show k0_t2_loop.trips = 16 by decide]
  unfold MInv Prev
  rw [if_pos (by omega), if_pos (by omega), show todoG 16 = ∅ by decide, bigSep_empty]
  iintro ⟨#Hmw, HA, HB, HO, HC, HV, HW, -⟩
  isplitr; · iexact Hmw
  isplitl [HA]; · iexact HA
  isplitl [HB]; · iexact HB
  isplitl [HO]; · iexact HO
  isplitl [HC]; · iexact HC
  isplitl [HV] <;> iassumption
/-- All the tile's groups, the last two among them. -/
theorem wRows_all (W : Buf (Elt F) (wLoc d)) :
    iprop(WG d L (fl0 16) W ∗ WG d L (fl1 16) W ∗ bigSep (doneG 16) fun g => WG d L g W) ⊢ (WRows d L W : sProp 𝕄) := by
  rw [← done_join d L W (by decide) (le_refl _), show (Finset.univ.filter fun g : Fin 32 => g.val < 2 * 16) = Finset.univ by decide]
  exact .refl

/-- The task: from its rows of the padded tables, its rows of the dense matrix. -/
theorem task (fc : Buf (Elt F) (cLoc d)) (fv : Buf (Elt F) (vLoc d)) (fd : Buf (Elt F) (wLoc d)) (hfc : ∀ i, ((fc : Vec F S4096x48 .i32) i).toNat < 4096) :
    iprop(□ Transfers.MayWaits (thr d L) none O ∗ VRows d L fv ∗ CRows d L fc ∗ WRows d L fd ∗ Scratch (F := F) d L ∗ Sems (F := F) d L ∗ OW d L O W₀)
      ⊢ wp frame (wpE (defs₀ (F := F)) 𝒱₀ (thr d L) none) Set.univ (cc0_scatter_kernel L vV (Memref.isWhole_whole _) cV (Memref.isWhole_whole _) wV (Memref.isWhole_whole _) sV (Memref.isWhole_whole _) sC (Memref.isWhole_whole _)
          sB0 (Memref.isWhole_whole _) sB1 (Memref.isWhole_whole _) cc0_scratch4 cc0_scratch5 cc0_scoped0 cc0_scoped1)
        fun _ => iprop(VRows d L fv ∗ CRows d L fc ∗ WRows d L (WD fc fv : Vec F S4096x4096 .f32) ∗ Scratch (F := F) d L ∗ Sems (F := F) d L ∗ OW d L O W₀) := by
  have hC := tabC_lt d L fc hfc
  have hW := denseOn d L fc fv
  simp only [cc0_scatter_kernel_eq_skeleton]; unfold cc0_scatter_kernel_skel
  simp only [Prog.lift, Prog.bind_op, Prog.bind_ret, Prog.pure_eq_ret]
  unfold VRows CRows Scratch Sems
  iintro ⟨#Hmw, HV, HC, HW, ⟨⟨%f0, H0⟩, ⟨%f1, H1⟩, ⟨%f2, H2⟩, ⟨%f3, H3⟩⟩, ⟨Hs4, Hs5, Hr0, Hr1⟩, HO⟩
  ihave H0 := (Entails.of_eq (tabV_view (F := F) d L f0).symm) $$ H0
  iapply (wp_fetch d L (vView_set L) (sig.dmaCredit_pos _ _ _ _ _ (by decide)) (fa := fv) (fb := f0)) $$ [HV H0 Hr0 HO]
  · isplitr; · iexact Hmw
    isplitl [HV]; · iexact HV
    isplitl [H0]; · iexact H0
    isplitl [Hr0] <;> iassumption
  iintro ⟨HV, H0, Hr0, HO⟩
  ihave H1 := (Entails.of_eq (tabC_view (F := F) d L f1).symm) $$ H1
  iapply (wp_fetch d L (cView_set L) (sig.dmaCredit_pos _ _ _ _ _ (by decide)) (fa := fc) (fb := f1)) $$ [HC H1 Hr1 HO]
  · isplitr; · iexact Hmw
    isplitl [HC]; · iexact HC
    isplitl [H1]; · iexact H1
    isplitl [Hr1] <;> iassumption
  iintro ⟨HC, H1, Hr1, HO⟩
  ihave H0 := (Entails.of_eq (tabV_got (F := F) d L f0 fv)) $$ H0
  ihave H1 := (Entails.of_eq (tabC_got (F := F) d L f1 fc)) $$ H1
  ihave HZ := (zInv_first d L f2 f3) $$ [H2 H3]
  · isplitl [H2]
    · iapply (loc_buf0 d L f2); iexact H2
    · iapply (loc_buf1 d L f3); iexact H3
  sl_for (fun n _ => ZInv (F := F) d L n) $$ [HZ]
  case region =>
    intro t u
    exact zero_trip d L t u
  · iexact HZ
  iintro %u HZ
  ihave ⟨HA, HB⟩ := (zInv_last d L) $$ HZ
  ihave HM := (mInv_first (W := WD fc fv) (O := O) (W₀ := W₀) d L fd) $$ [HA HB Hs4 Hs5 HO H0 H1 HW]
  · isplitr; · iexact Hmw
    isplitl [HA]; · iexact HA
    isplitl [HB]; · iexact HB
    isplitl [Hs4]; · iexact Hs4
    isplitl [Hs5]; · iexact Hs5
    isplitl [HO]; · iexact HO
    isplitl [H1]; · iexact H1
    isplitl [H0]; · iexact H0
    iexact HW
  sl_for (fun n _ => MInv d L (tabC d L fc) (tabV d L fv) (WD fc fv) fd O W₀ n) $$ [HM]
  case region =>
    intro t u
    exact main_step d L hW fd hC t u _
  · iexact HM
  iintro %u2 HM
  ihave ⟨#Hmw2, HF0, HF1, HO, H1, H0, HD⟩ := (mInv_last d L fd) $$ HM
  unfold Fl
  iapply (wp_wait d L (W₀ := W₀) rfl) $$ [HF0 HO]
  · isplitr; · iexact Hmw
    isplitl [HF0] <;> iassumption
  iintro ⟨⟨HG0, HA⟩, Hs4, HO⟩
  iapply (wp_wait d L (W₀ := W₀) rfl) $$ [HF1 HO]
  · isplitr; · iexact Hmw
    isplitl [HF1] <;> iassumption
  iintro ⟨⟨HG1, HB⟩, Hs5, HO⟩
  rw [wp_ret]
  imodintro
  ihave HW := (wRows_all d L (WD fc fv)) $$ [HG0 HG1 HD]
  · isplitl [HG0]; · iexact HG0
    isplitl [HG1] <;> iassumption
  ihave H2 := (buf0_loc d L _) $$ HA
  ihave H3 := (buf1_loc d L _) $$ HB
  unfold TabC TabV
  isplitl [HV]; · iexact HV
  isplitl [HC]; · iexact HC
  isplitl [HW]; · iexact HW
  isplitl [H0 H1 H2 H3]
  · isplitl [H0]; · iexists _; iexact H0
    isplitl [H1]; · iexists _; iexact H1
    isplitl [H2] <;> iassumption
  isplitl [Hs4 Hs5 Hr0 Hr1]
  · isplitl [Hs4]; · iexact Hs4
    isplitl [Hs5]; · iexact Hs5
    isplitl [Hr0] <;> iassumption
  iexact HO

end Tile

end Cert.Proof

end
-- ==== Proof.Tasks.lean ====
/-
  What the SparseCore call carries to each tile and back, and each tile's obligation to the launch: its task, run on its own storage.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## What the call carries -/

/-- What the precondition gives: every padded column number is below the width of the dense matrix. -/
def ColsOK (fc : (d : Dev nD) → Buf (Elt F) (cLoc d)) : Prop := ∀ d i, ((fc d : Vec F S4096x48 .i32) i).toNat < 4096

abbrev nc0 (c : Fin ((K (F := F)).nCore 0)) : Fin (grid0.bound 0) := c
abbrev ns0 (i : Fin ((K (F := F)).nSub 0)) : Fin (grid0.bound 1) := i

def coordsV (c : Fin (grid0.bound 0)) (s : Fin (grid0.bound 1)) : grid0.Coords :=
  fun | 0 => c | 1 => s | ⟨_ + 2, h⟩ => absurd h (Nat.not_lt.2 (Nat.le_add_left _ _))

section Call

variable [FloatOps F] (fv : (d : Dev nD) → Buf (Elt F) (vLoc d)) (fc : (d : Dev nD) → Buf (Elt F) (cLoc d)) (fw : (d : Dev nD) → Buf (Elt F) (wLoc d))

/-- A tile's rows of the two padded tables and of the dense matrix at contents `w`. -/
abbrev Rows (d : Dev nD) (L : grid0.Coords) (v : Buf (Elt F) (vLoc d)) (c : Buf (Elt F) (cLoc d)) (w : Buf (Elt F) (wLoc d)) : sProp 𝕄 :=
  iprop(VRows d L v ∗ CRows d L c ∗ WRows d L w)

/-- The dense matrix the tiles leave. -/
abbrev fwd (d : Dev nD) : Buf (Elt F) (wLoc d) := (WD (fc d) (fv d) : Vec F S4096x4096 .f32)

/-- The call takes every tile's rows and brings them back, the dense matrix's as the tables say. -/
def P : (K (F := F)).Pay (nD := nD) (Val := Elt F) (Name := ℕ) (U := UU) where
  st := fun q d c => match q with
    | 0 => bigSep Finset.univ fun i : Fin ((K (F := F)).nSub 0) => Rows d (coordsV (nc0 c) (ns0 i)) (fv d) (fc d) (fw d)
  dn := fun q d c => match q with
    | 0 => bigSep Finset.univ fun i : Fin ((K (F := F)).nSub 0) => Rows d (coordsV (nc0 c) (ns0 i)) (fv d) (fc d) (fwd fv fc d)
  go := fun q d c i => match q with
    | 0 => Rows d (coordsV (nc0 c) (ns0 i)) (fv d) (fc d) (fw d)
  td := fun q d c i => match q with
    | 0 => Rows d (coordsV (nc0 c) (ns0 i)) (fv d) (fc d) (fwd fv fc d)
  x := fun q _ => match q with | 0 => iprop(emp)

instance vRows_storable (d : Dev nD) (L : grid0.Coords) (v : Buf (Elt F) (vLoc d)) : BI.Storable (upEmb : UEmb _ 𝕄) (VRows d L v) := by
  unfold VRows; infer_instance
instance cRows_storable (d : Dev nD) (L : grid0.Coords) (c : Buf (Elt F) (cLoc d)) : BI.Storable (upEmb : UEmb _ 𝕄) (CRows d L c) := by
  unfold CRows; infer_instance
instance wRows_storable (d : Dev nD) (L : grid0.Coords) (w : Buf (Elt F) (wLoc d)) : BI.Storable (upEmb : UEmb _ 𝕄) (WRows d L w) := by
  unfold WRows WG; infer_instance

instance P_storable : (P (F := F) fv fc fw).IsStorable where
  st q d c := match q with
    | 0 => (inferInstance : BI.Storable (upEmb : UEmb _ 𝕄)
        (bigSep Finset.univ fun i : Fin ((K (F := F)).nSub 0) => Rows d (coordsV (nc0 c) (ns0 i)) (fv d) (fc d) (fw d)))
  dn q d c := match q with
    | 0 => (inferInstance : BI.Storable (upEmb : UEmb _ 𝕄)
        (bigSep Finset.univ fun i : Fin ((K (F := F)).nSub 0) => Rows d (coordsV (nc0 c) (ns0 i)) (fv d) (fc d) (fwd fv fc d)))
  go q d c i := match q with
    | 0 => (inferInstance : BI.Storable (upEmb : UEmb _ 𝕄) (Rows d (coordsV (nc0 c) (ns0 i)) (fv d) (fc d) (fw d)))
  td q d c i := match q with
    | 0 => (inferInstance : BI.Storable (upEmb : UEmb _ 𝕄) (Rows d (coordsV (nc0 c) (ns0 i)) (fv d) (fc d) (fwd fv fc d)))

/-! ## A tile's storage -/

abbrev cell (d : Dev nD) (L : grid0.Coords) (s : DmaSems sig S_) : GSem nD τ sig := (thr d L, SemLoc.dma s.sem)
abbrev dref (L : grid0.Coords) (b : Ref sig .scVector) : DevRef τ sig := (Proc.scVector (tC L) (tS L)).devRef b

omit [FloatOps F] in
theorem mem_cell (d : Dev nD) (L : grid0.Coords) (s : DmaSems sig S_) (h : (SemLoc.dma s.sem : SemLoc sig).isScoped .scVector = true) :
    cell d L s ∈ SparseCore.Cfg.ownCells (thr d L) := (SparseCore.Cfg.mem_ownCells (g := cell d L s)).mpr ⟨rfl, h⟩

omit [FloatOps F] in
theorem cell_ne (d : Dev nD) (L : grid0.Coords) {s s' : DmaSems sig S_} (h : (SemLoc.dma s.sem : SemLoc sig) ≠ SemLoc.dma s'.sem) : cell d L s ≠ cell d L s' :=
  fun e => h (Prod.mk.inj e).2

omit [FloatOps F] in
theorem dref_ne (L : grid0.Coords) {b b' : Ref sig .scVector} (h : b ≠ b') : dref L b ≠ dref L b' :=
  fun e => h (Proc.devRef_injective _ e)

/-- What a tile owns beside the storage its task uses. -/
def SemsRest (d : Dev nD) (L : grid0.Coords) : sProp 𝕄 :=
  bigSep (((((SparseCore.Cfg.ownCells (thr d L)).erase (cell d L cc0_scratch4)).erase (cell d L cc0_scratch5)).erase (cell d L cc0_scoped0)).erase (cell d L cc0_scoped1))
    fun g => semVal g 0
def BufsRest (d : Dev nD) (L : grid0.Coords) : sProp 𝕄 :=
  bigSep (((((SparseCore.Cfg.ownRefs (τ := τ) (.scVector (tC L) (tS L))).erase (dref L cc0_scratch0)).erase (dref L cc0_scratch1)).erase (dref L cc0_scratch2)).erase
    (dref L cc0_scratch3)) fun b => iprop(∃ f, ((d, b) : Loc nD τ sig) ↦{fullShare} f)

omit [FloatOps F] in
theorem ownSems0_tile (d : Dev nD) (L : grid0.Coords) :
    (SparseCore.Cfg.ownSems0 (thr d L) : sProp 𝕄)
      = iprop(semVal (cell d L cc0_scratch4) 0 ∗ semVal (cell d L cc0_scratch5) 0 ∗ semVal (cell d L cc0_scoped0) 0 ∗ semVal (cell d L cc0_scoped1) 0
          ∗ SemsRest (F := F) d L) := by
  unfold SparseCore.Cfg.ownSems0 SemsRest
  rw [SparseCore.bigSep_erase' (mem_cell d L cc0_scratch4 (by decide)),
    SparseCore.bigSep_erase' (Finset.mem_erase.mpr ⟨cell_ne d L (by decide), mem_cell d L cc0_scratch5 (by decide)⟩),
    SparseCore.bigSep_erase' (Finset.mem_erase.mpr ⟨cell_ne d L (by decide), Finset.mem_erase.mpr ⟨cell_ne d L (by decide), mem_cell d L cc0_scoped0 (by decide)⟩⟩),
    SparseCore.bigSep_erase' (Finset.mem_erase.mpr ⟨cell_ne d L (by decide), Finset.mem_erase.mpr ⟨cell_ne d L (by decide),
      Finset.mem_erase.mpr ⟨cell_ne d L (by decide), mem_cell d L cc0_scoped1 (by decide)⟩⟩⟩)]

omit [FloatOps F] in
theorem ownBufs_tile (d : Dev nD) (L : grid0.Coords) :
    (SparseCore.Cfg.ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f) ∗ BufsRest (F := F) d L) := by
  unfold SparseCore.Cfg.ownBufs BufsRest
  refine (SparseCore.bigSep_erase' (SparseCore.Cfg.mem_ownRefs_of_owner (p := Proc.scVector (tC L) (tS L)) (b := dref L cc0_scratch0) rfl)).trans ?_
  rw [SparseCore.bigSep_erase' (Finset.mem_erase.mpr ⟨dref_ne L (by decide), SparseCore.Cfg.mem_ownRefs_of_owner (p := Proc.scVector (tC L) (tS L)) (b := dref L cc0_scratch1) rfl⟩),
    SparseCore.bigSep_erase' (Finset.mem_erase.mpr ⟨dref_ne L (by decide), Finset.mem_erase.mpr ⟨dref_ne L (by decide), SparseCore.Cfg.mem_ownRefs_of_owner (p := Proc.scVector (tC L) (tS L)) (b := dref L cc0_scratch2) rfl⟩⟩),
    SparseCore.bigSep_erase' (Finset.mem_erase.mpr ⟨dref_ne L (by decide), Finset.mem_erase.mpr ⟨dref_ne L (by decide),
      Finset.mem_erase.mpr ⟨dref_ne L (by decide), SparseCore.Cfg.mem_ownRefs_of_owner (p := Proc.scVector (tC L) (tS L)) (b := dref L cc0_scratch3) rfl⟩⟩⟩)]

/-! ## The launch theorem's obligations -/

theorem tile_body (d : Dev nD) (L : grid0.Coords) (v : Buf (Elt F) (vLoc d)) (c : Buf (Elt F) (cLoc d)) (w : Buf (Elt F) (wLoc d))
    (hc : ∀ i, ((c : Vec F S4096x48 .i32) i).toNat < 4096) (O : CellTallies nD τ sig (HIx 1)) (W : Waits sig (HIx 1)) (hO : ∀ g, O g none = 0) :
    iprop(levAts (K (F := F)).L (K (F := F)).lev ∗ emp ∗ Rows d L v c w ∗ scopedBufs (thr d L) ∗ scopedSems0 (thr d L) ∗ owes (thr d L) O W)
      ⊢ wp frame (wpE (defs₀ (F := F)) 𝒱₀ (thr d L) none) Set.univ
          (cc0_scatter_kernel L vV (Memref.isWhole_whole _) cV (Memref.isWhole_whole _) wV (Memref.isWhole_whole _) sV (Memref.isWhole_whole _) sC (Memref.isWhole_whole _)
            sB0 (Memref.isWhole_whole _) sB1 (Memref.isWhole_whole _) cc0_scratch4 cc0_scratch5 cc0_scoped0 cc0_scoped1)
          fun _ => iprop(Rows d L v c (WD c v : Vec F S4096x4096 .f32) ∗ scopedBufs (thr d L) ∗ scopedSems0 (thr d L)
            ∗ ∃ W', ⌜∀ p ∈ W', p ∈ W ∨ p.2 = none⌝ ∗ owes (thr d L) O W') := by
  rw [(K (F := F)).scopedBufs_V facts d (tC L) (tS L), SparseCore.Cfg.scopedSems0_V (Val := Elt F) d (tC L) (tS L), ownSems0_tile, ownBufs_tile]
  iintro ⟨#Hlv, -, ⟨HV, HC, HW⟩, ⟨H0, H1, H2, H3, Hbufs⟩, ⟨S4, S5, R0, R1, Hsems⟩, HO⟩
  ihave #Hmw := ((K (F := F)).mayWaits_none (thr := thr d L) hO) $$ Hlv
  iapply (wp_wand _ _ _) $$ [HV HC HW H0 H1 H2 H3 S4 S5 R0 R1 HO]
  · iapply (task (O := O) (W₀ := W) d L c v w hc)
    isplitr; · imodintro; iexact Hmw
    isplitl [HV]; · iexact HV
    isplitl [HC]; · iexact HC
    isplitl [HW]; · iexact HW
    isplitl [H0 H1 H2 H3]
    · unfold Scratch
      isplitl [H0]; · iexact H0
      isplitl [H1]; · iexact H1
      isplitl [H2]; · iexact H2
      iexact H3
    isplitl [S4 S5 R0 R1]
    · unfold Sems
      isplitl [S4]; · iexact S4
      isplitl [S5]; · iexact S5
      isplitl [R0]; · iexact R0
      iexact R1
    unfold OW
    iexists W; isplitr
    · ipureintro; exact fun p hp => Or.inl hp
    iexact HO
  unfold Scratch Sems OW
  iintro %_ ⟨HV, HC, HW, ⟨H0, H1, H2, H3⟩, ⟨S4, S5, R0, R1⟩, HO⟩
  isplitl [HV HC HW]
  · isplitl [HV]; · iexact HV
    isplitl [HC]; · iexact HC
    iexact HW
  isplitl [H0 H1 H2 H3 Hbufs]
  · isplitl [H0]; · iexact H0
    isplitl [H1]; · iexact H1
    isplitl [H2]; · iexact H2
    isplitl [H3]; · iexact H3
    iexact Hbufs
  isplitl [S4 S5 R0 R1 Hsems]
  · isplitl [S4]; · iexact S4
    isplitl [S5]; · iexact S5
    isplitl [R0]; · iexact R0
    isplitl [R1]; · iexact R1
    iexact Hsems
  iexact HO

theorem defs₀_vector (c : Fin τ.nSC) (s : Fin τ.nSub) :
    defs₀ (F := F) (.scVector c s) 0 ()
      = SparseCore.onTile hcore0 hsub0 (fun c s => cc0_scatter_kernel (coordsV c s) vV (Memref.isWhole_whole _) cV (Memref.isWhole_whole _) wV (Memref.isWhole_whole _)
          sV (Memref.isWhole_whole _) sC (Memref.isWhole_whole _) sB0 (Memref.isWhole_whole _) sB1 (Memref.isWhole_whole _)
          cc0_scratch4 cc0_scratch5 cc0_scoped0 cc0_scoped1) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hc : ColsOK fc) : (K (F := F)).TileObl (D (F := F)) 𝒱 (P fv fc fw) v₀ 0 := by
  intro d c i O W hO _ _
  simp only [show (P fv fc fw).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hb : ((K (F := F)).core 0 c).val < grid0.bound 0 ∧ ((K (F := F)).sub 0 i).val < grid0.bound 1 := ⟨c.isLt, i.isLt⟩
  rw [defs₀_vector]; simp only [SparseCore.onTile, hb, and_self, ↓reduceDIte]
  exact (tile_body d (coordsV ⟨_, hb.1⟩ ⟨_, hb.2⟩) (fv d) (fc d) (fw d) (hc d) O W hO).trans (wp_mono frame _ _ fun _ => obl_post)

theorem vecSplit : (K (F := F)).VecSplit' (P fv fc fw) 0 := by
  intro d c
  show (bigSep Finset.univ fun i : Fin ((K (F := F)).nSub 0) => Rows d (coordsV (nc0 c) (ns0 i)) (fv d) (fc d) (fw d)) ⊢ |={Set.univ}=> iprop(
      (bigSep Finset.univ fun i : Fin ((K (F := F)).nSub 0) => Rows d (coordsV (nc0 c) (ns0 i)) (fv d) (fc d) (fw d))
      ∗ ((bigSep Finset.univ fun i : Fin ((K (F := F)).nSub 0) => Rows d (coordsV (nc0 c) (ns0 i)) (fv d) (fc d) (fwd fv fc d))
        -∗ bigSep Finset.univ fun i : Fin ((K (F := F)).nSub 0) => Rows d (coordsV (nc0 c) (ns0 i)) (fv d) (fc d) (fwd fv fc d)))
  iintro H; imodintro
  isplitl [H]; · iexact H
  iintro H; iexact H

end Call

end Cert.Proof

end
-- ==== Proof.Join.lean ====
/-
  The SparseCore call's rows joined into whole arrays: every tile's rows of the two tables and of the dense matrix, over both cores and their sixteen
  tiles, are the tables and the matrix.
-/
module

public import proofs.«01_k».proof.Proof.Tasks

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Join

theorem tileNo_eq (c : Fin 2) (i : Fin 16) : tileNo (coordsV c i) = finProdFinEquiv (i, c) := by
  apply Fin.ext
  rw [finProdFinEquiv_apply_val]
  show 2 * i.val + c.val = c.val + 2 * i.val
  omega

/-- The two cores and their sixteen tiles are the 32 tiles. -/
theorem bigSep_tiles (Φ : Fin 32 → sProp 𝕄) :
    (bigSep Finset.univ fun c : Fin 2 => bigSep Finset.univ fun i : Fin 16 => Φ (tileNo (coordsV c i))) = bigSep Finset.univ Φ := by
  rw [bigSep_univ_equiv (finProdFinEquiv (m := 16) (n := 2)) Φ, bigSep_univ_prod, Pipeline.bigSep_univ_comm]
  refine bigSep_congr fun i _ => bigSep_congr fun c _ => ?_
  rw [tileNo_eq]

/-- The tiles' groups of four rows are the matrix's 1024. -/
theorem bigSep_groups (Φ : Fin 1024 → sProp 𝕄) :
    (bigSep Finset.univ fun c : Fin 2 => bigSep Finset.univ fun i : Fin 16 => bigSep Finset.univ fun g : Fin 32 => Φ (groupNo (coordsV c i) g))
      = bigSep Finset.univ Φ := by
  rw [bigSep_univ_equiv (finProdFinEquiv (m := 32) (n := 32)) Φ, bigSep_univ_prod, ← bigSep_tiles]
  refine bigSep_congr fun c _ => bigSep_congr fun i _ => bigSep_congr fun g _ => congrArg Φ (Fin.ext ?_)
  rw [finProdFinEquiv_apply_val]
  show 32 * (tileNo (coordsV c i)).val + g.val = g.val + 32 * (tileNo (coordsV c i)).val
  omega

theorem tables_v (d : Dev nD) (v : Buf (Elt F) (vLoc d)) :
    (bigSep Finset.univ fun t : Fin 32 => (vLoc d ↦[tSet t]{fullShare} v : sProp 𝕄)) = (vLoc d ↦{fullShare} v) := by
  rw [← pointsTo_biUnion (ℓ := vLoc d) Finset.univ tSet fun t _ t' _ h => Rect.part_disjoint hdivT h]
  exact congrArg (fun S => (vLoc d ↦[S]{fullShare} v : sProp 𝕄)) (Rect.biUnion_part hdivT)

theorem tables_c (d : Dev nD) (v : Buf (Elt F) (cLoc d)) :
    (bigSep Finset.univ fun t : Fin 32 => (cLoc d ↦[tSet t]{fullShare} v : sProp 𝕄)) = (cLoc d ↦{fullShare} v) := by
  rw [← pointsTo_biUnion (ℓ := cLoc d) Finset.univ tSet fun t _ t' _ h => Rect.part_disjoint hdivT h]
  exact congrArg (fun S => (cLoc d ↦[S]{fullShare} v : sProp 𝕄)) (Rect.biUnion_part hdivT)

theorem tables_w (d : Dev nD) (v : Buf (Elt F) (wLoc d)) :
    (bigSep Finset.univ fun n : Fin 1024 => (wLoc d ↦[gSet n]{fullShare} v : sProp 𝕄)) = (wLoc d ↦{fullShare} v) := by
  rw [← pointsTo_biUnion (ℓ := wLoc d) Finset.univ gSet fun t _ t' _ h => Rect.part_disjoint hdivG h]
  exact congrArg (fun S => (wLoc d ↦[S]{fullShare} v : sProp 𝕄)) (Rect.biUnion_part hdivG)

variable [FloatOps F]

/-- All the tiles' rows are the two tables and the dense matrix, whole. -/
theorem rows_join (d : Dev nD) (v : Buf (Elt F) (vLoc d)) (c : Buf (Elt F) (cLoc d)) (w : Buf (Elt F) (wLoc d)) :
    (bigSep Finset.univ fun k : Fin 2 => bigSep Finset.univ fun i : Fin 16 => Rows d (coordsV k i) v c w : sProp 𝕄)
      = iprop((vLoc d ↦{fullShare} v) ∗ (cLoc d ↦{fullShare} c) ∗ wLoc d ↦{fullShare} w) := by
  unfold Rows VRows CRows WRows WG
  simp only [bigSep_sep']
  rw [bigSep_tiles (fun t => (vLoc d ↦[tSet t]{fullShare} v : sProp 𝕄)), bigSep_tiles (fun t => (cLoc d ↦[tSet t]{fullShare} c : sProp 𝕄)),
    bigSep_groups (fun n => (wLoc d ↦[gSet n]{fullShare} w : sProp 𝕄)), tables_v, tables_c, tables_w]

variable (fv : (d : Dev nD) → Buf (Elt F) (vLoc d)) (fc : (d : Dev nD) → Buf (Elt F) (cLoc d)) (fw : (d : Dev nD) → Buf (Elt F) (wLoc d))

theorem st0_eq (d : Dev nD) : (bigSep Finset.univ fun c : Fin ((K (F := F)).nCore 0) => (P fv fc fw).st 0 d c)
    = iprop((vLoc d ↦{fullShare} fv d) ∗ (cLoc d ↦{fullShare} fc d) ∗ wLoc d ↦{fullShare} fw d) :=
  rows_join d (fv d) (fc d) (fw d)
theorem dn0_eq (d : Dev nD) : (bigSep Finset.univ fun c : Fin ((K (F := F)).nCore 0) => (P fv fc fw).dn 0 d c)
    = iprop((vLoc d ↦{fullShare} fv d) ∗ (cLoc d ↦{fullShare} fc d) ∗ wLoc d ↦{fullShare} fwd fv fc d) :=
  rows_join d (fv d) (fc d) (fwd fv fc d)

end Join

end Cert.Proof

end
-- ==== Proof.Region.lean ====
/-
  The TensorCore's call: at each of its eight grid points it multiplies the whole input by the transpose of 512 rows of the dense matrix and adds 512
  elements of the bias, and the eight blocks tile the result.
-/
module

public import proofs.«01_k».proof.Proof.Setup
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Regions
public import Idealize.ShloMosaic.Lib.Pipeline.RegionsLoop
public import Idealize.ShloMosaic.Lib.Pipeline.FrameBody
public import Idealize.ShloMosaic.Lib.Pipeline.ValueKit

@[expose] public section

noncomputable section

namespace Cert.Proof

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type}

local notation "𝕄" => MT nD τ sig (HIx 1) (Elt F) ℕ UU ℕ

/-! ## The body -/

/-- The 512 elements of the bias the body loads at grid point `i`. -/
def biasAt (i : grid1.Coords) (X : Vec F S4096 .f32) : Vec F S512 .f32 :=
  fun j => X ((Rect.unit (s := S4096) (k1_off1 i) S512.size (k1_off1_inb i)).toLoadRect.idx j)

section Body

variable [FloatOps F]

omit [FloatOps F] in
/-- A store through the whole of a buffer, read back. -/
theorem read_whole_store (M : Memref sig .tc .vmem S256x512 .f32) (inb : ∀ a, (![0, 0] : Fin 2 → ℕ) a + S256x512.size a ≤ S256x512.size a)
    (f : M.view.ty.Contents (Elt F)) (w : Vec F S256x512 .f32) :
    M.view.read (Elt F) ((M.access (Rect.unit (s := S256x512) ![0, 0] S256x512.size inb)).write (Elt F) f w Finset.univ) = w := by
  funext y
  have hy : (Rect.unit (s := S256x512) ![0, 0] S256x512.size inb).emb y = y := by
    funext a; apply Fin.ext; rw [Rect.emb_apply]; fin_cases a <;> simp
  have h := View.read_slice_write_emb (v := M.view) (Val := Elt F) (Rect.unit (s := S256x512) ![0, 0] S256x512.size inb) f w (M := Finset.univ) (x := y) (Finset.mem_univ _)
  rw [hy] at h
  exact h

/-- The body at a grid point: from the three operands' staging buffers it leaves the product's block plus the bias in the result's. -/
theorem matmul_body (c : Dev nD) (i : grid1.Coords) (M1 : Memref sig .tc .vmem S256x4096 .f32) (h1 : M1.IsWhole)
    (M2 : Memref sig .tc .vmem S512x4096 .f32) (h2 : M2.IsWhole) (M3 : Memref sig .tc .vmem S4096 .f32) (h3 : M3.IsWhole)
    (M4 : Memref sig .tc .vmem S256x512 .f32) (h4 : M4.IsWhole)
    (X1 : Vec F S256x4096 .f32) (X2 : Vec F S512x4096 .f32) (X3 : Vec F S4096 .f32) (X4 : Vec F S256x512 .f32) :
    (iprop(owns (c : Thread nD τ) M1 fullShare X1 ∗ owns (c : Thread nD τ) M2 fullShare X2 ∗ owns (c : Thread nD τ) M3 fullShare X3
        ∗ owns (c : Thread nD τ) M4 fullShare X4) : sProp 𝕄)
      ⊢ wp frame (wpE (defs₀ (F := F)) 𝒱₀ (c : Thread nD τ) none) Set.univ (cc1__matmul_body i M1 h1 M2 h2 M3 h3 M4 h4)
        fun _ => iprop(owns (c : Thread nD τ) M1 fullShare X1 ∗ owns (c : Thread nD τ) M2 fullShare X2 ∗ owns (c : Thread nD τ) M3 fullShare X3
          ∗ owns (c : Thread nD τ) M4 fullShare (k1_pay1 X1 X2 (biasAt i X3))) := by
  rw [cc1__matmul_body_eq_skeleton]
  unfold cc1__matmul_body_skel owns
  simp only [wp_bind, wp_pure, Prog.lift]
  iintro ⟨⟨%f1, %e1, H1⟩, ⟨%f2, %e2, H2⟩, ⟨%f3, %e3, H3⟩, ⟨%f4, %e4, H4⟩⟩
  iapply (wp_load 𝒱₀ (c : Thread nD τ) none Set.univ (m := M1) (f := f1) (S := M1.view.set) (View.setOn_subset_set _ _)) $$ H1
  iintro H1; rw [wp_ret]; imodintro
  iapply (wp_load 𝒱₀ (c : Thread nD τ) none Set.univ (m := M2) (f := f2) (S := M2.view.set) (View.setOn_subset_set _ _)) $$ H2
  iintro H2; rw [wp_ret]; imodintro
  iapply (wp_load 𝒱₀ (c : Thread nD τ) none Set.univ (m := M3) (f := f3) (S := M3.view.set) (View.setOn_subset_set _ _)) $$ H3
  iintro H3; rw [wp_ret]; imodintro
  iapply (wp_load 𝒱₀ (c : Thread nD τ) none Set.univ (m := M4) (f := f4) (S := M4.view.set) (View.setOn_subset_set _ _)) $$ H4
  iintro H4; rw [wp_ret]; imodintro
  iapply (wp_store 𝒱₀ (c : Thread nD τ) none Set.univ (m := M4) (f := f4) (S := M4.view.set)
    (r := Rect.unit (s := S256x512) ![0, 0] S256x512.size inb_S256x512_S256x512_0_0) (View.set_slice_subset _ _)) $$ H4
  iintro H4; rw [wp_ret]; imodintro
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  iexists _; isplitr; swap; (· iexact H4)
  ipureintro
  subst e1 e2 e3
  have hz : (![0, 0] : Fin 2 → ℕ) = fun _ => 0 := by funext a; fin_cases a <;> rfl
  have hr1 : M1.view.readAt (Elt F) (Rect.unit (s := S256x4096) ![0, 0] S256x4096.size inb_S256x4096_S256x4096_0_0).toLoadRect f1 = M1.view.read (Elt F) f1 :=
    View.ld_unit_zero hz _ _
  have hr2 : M2.view.readAt (Elt F) (Rect.unit (s := S512x4096) ![0, 0] S512x4096.size inb_S512x4096_S512x4096_0_0).toLoadRect f2 = M2.view.read (Elt F) f2 :=
    View.ld_unit_zero hz _ _
  rw [hr1, hr2]
  exact read_whole_store _ _ _ _

/-! ## The proof data -/

variable (V : (c : Dev nD) → (b : Ref sig .tc) → Buf (Elt F) ((c : Thread nD τ).loc b))

/-- The block of window `w`'s array a grid point fetches. -/
abbrev blkAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the result's staging buffer at point `t`. -/
def blkOut (c : Dev nD) (t : Fin cfg1.N) : Vec F S256x512 .f32 :=
  k1_pay1 (blkAt V c 0 t : Vec F S256x4096 .f32) (blkAt V c 1 t : Vec F S512x4096 .f32) (biasAt (grid1.coords t) (blkAt V c 2 t : Vec F S4096 .f32))

/-- The region's data from the contents `V`: the operands' buffers hold what was fetched, the result's the product's block; nothing is owed, and
    every wait it has recorded is at or below the level of the call before it. -/
def dat (c : Dev nD) : Dat τ (Elt F) (HIx 1) ℕ UU ℕ cfg1 c where
  A w := V c (Pipeline.arrRef spec1 w)
  after w t := match w with
    | ⟨0, _⟩ => blkAt V c 0 t
    | ⟨1, _⟩ => blkAt V c 1 t
    | ⟨2, _⟩ => blkAt V c 2 t
    | ⟨3, _⟩ => blkOut V c t
  Φ _ := Pipeline.scopedRest (Ix := HIx 1) (Name := ℕ) (U := UU) (Lvl := ℕ) (Val := Elt F) spec1 c
  q _ := fullShare
  owed _ := 0
  recorded _ := {p | (K (F := F)).lev (SparseCore.T c, p.1) p.2 ≤ 8}

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V c

theorem body_obligation (c : Dev nD) : BodyObligation (dat V c) (defs₀ (F := F)) 𝒱₀ (none : HIx 1) Set.univ := fun t => by
  rw [bigSep_W1, bigSep_W1]
  rw [show (dat V c).Φ t.succ = (dat V c).Φ t.castSucc from rfl,
    show (dat V c).owesAt (none : HIx 1) t.succ = (dat V c).owesAt (none : HIx 1) t.castSucc from rfl]
  have e0 : ∀ d, (dat V c).before 0 t d = blkAt V c 0 t := (dat V c).before_in_eq_fetched 0 rfl (fun _ => rfl) (fun _ _ _ => rfl) (fun _ => rfl) t
  have e1 : ∀ d, (dat V c).before 1 t d = blkAt V c 1 t := (dat V c).before_in_eq_fetched 1 rfl (fun _ => rfl) (fun _ _ _ => rfl) (fun _ => rfl) t
  have e2 : ∀ d, (dat V c).before 2 t d = blkAt V c 2 t := (dat V c).before_in_eq_fetched 2 rfl (fun _ => rfl) (fun _ _ _ => rfl) (fun _ => rfl) t
  simp only [e0, e1, e2]
  iintro ⟨HΦ, Howes, ⟨%d0, H0⟩, ⟨%d1, H1⟩, ⟨%d2, H2⟩, ⟨%d3, H3⟩⟩
  iapply (wp_wand _ _ _) $$ [H0 H1 H2 H3]
  · iapply (matmul_body c (grid1.coords t) (win1_0.stage (cfg1.slots t 0)) (hstage1_0 ((cfg1.slots t 0).cast nbuf1_0)) (win1_1.stage (cfg1.slots t 1))
      (hstage1_1 ((cfg1.slots t 1).cast nbuf1_1)) (win1_2.stage (cfg1.slots t 2)) (hstage1_2 ((cfg1.slots t 2).cast nbuf1_2))
      (win1_3.stage (cfg1.slots t 3)) (hstage1_3 ((cfg1.slots t 3).cast nbuf1_3)) (blkAt V c 0 t) (blkAt V c 1 t) (blkAt V c 2 t) _) $$ [H0 H1 H2 H3]
    isplitl [H0]; · iexact H0
    isplitl [H1]; · iexact H1
    isplitl [H2]; · iexact H2
    iexact H3
  iintro %_ ⟨H0, H1, H2, H3⟩
  isplitl [HΦ]; · iexact HΦ
  isplitl [Howes]; · iexact Howes
  isplitl [H0]; · iexact H0
  isplitl [H1]; · iexact H1
  isplitl [H2]; · iexact H2
  iexact H3

/-! ## The result's array after the region -/

/-- The grid point whose block holds column `n` of the result, as grid coordinates. -/
def gridOf (n : Fin 4096) : grid1.Coords := fun | ⟨0, _⟩ => ⟨n.val / 512, show n.val / 512 < 8 by have := n.isLt; omega⟩ | ⟨_ + 1, h⟩ => absurd h (by show ¬ _ < 1; omega)

/-- The block of the result at grid coordinates `i`, from the whole operands. -/
def blkG (X : Vec F S256x4096 .f32) (Wd : Vec F S4096x4096 .f32) (B : Vec F S4096 .f32) (i : grid1.Coords) : Vec F S256x512 .f32 :=
  k1_pay1 X (fun y => Wd (fun | ⟨0, _⟩ => (⟨512 * (i 0).val + (y 0).val, by have h : (i 0).val < 8 := (i 0).isLt; have h' : (y 0).val < 512 := (y 0).isLt; show _ < 4096; omega⟩ : Fin 4096) | ⟨1, _⟩ => (y 1 : Fin 4096)))
    (biasAt i B)

/-- The whole result. -/
def OUT (X : Vec F S256x4096 .f32) (Wd : Vec F S4096x4096 .f32) (B : Vec F S4096 .f32) : Vec F S256x4096 .f32 := fun j =>
  blkG X Wd B (gridOf (j 1)) (fun | ⟨0, _⟩ => (j 0 : Fin 256) | ⟨1, _⟩ => (⟨(j 1).val % 512, Nat.mod_lt _ (by omega)⟩ : Fin 512))

theorem index3_1 (t : Fin cfg1.N) : win1_3.index t 1 = (grid1.coords t 0).val := by
  have h : (grid1.coords t 0).val < 8 := (grid1.coords t 0).isLt
  show (BitVec.ofNat 32 (grid1.coords t 0).val).toNat = _
  rw [BitVec.toNat_ofNat]
  omega
theorem index1_0 (t : Fin cfg1.N) : win1_1.index t 0 = (grid1.coords t 0).val := by
  have h : (grid1.coords t 0).val < 8 := (grid1.coords t 0).isLt
  show (BitVec.ofNat 32 (grid1.coords t 0).val).toNat = _
  rw [BitVec.toNat_ofNat]
  omega

theorem blkOut_eq (c : Dev nD) (t : Fin cfg1.N) :
    blkOut V c t = blkG (V c main_arg0) (V c main_v2) (V c main_arg3) (grid1.coords t) := by
  have h0 : (blkAt V c 0 t : Vec F S256x4096 .f32) = V c main_arg0 := by
    funext y
    refine congrArg (V c main_arg0) (funext fun a => Fin.ext ?_)
    exact Window.rect_emb_val_of_index_zero win1_0 t a (by fin_cases a <;> rfl) y
  have h2 : (blkAt V c 2 t : Vec F S4096 .f32) = V c main_arg3 := by
    funext y
    refine congrArg (V c main_arg3) (funext fun a => Fin.ext ?_)
    exact Window.rect_emb_val_of_index_zero win1_2 t a (by fin_cases a; rfl) y
  unfold blkOut blkG
  rw [h0, h2]
  congr 1
  funext y
  refine congrArg (V c main_v2) (funext fun a => Fin.ext ?_)
  have e := Window.rect_emb_val win1_1 t y a
  refine Eq.trans (show _ = ((win1_1.rect t).emb y a : ℕ) from rfl) (e.trans ?_)
  fin_cases a
  · show win1_1.index t 0 * 512 + (y 0).val = 512 * (grid1.coords t 0).val + (y 0).val
    rw [index1_0]; omega
  · show 0 * 4096 + (y 1).val = (y 1).val
    omega

theorem out_eq (c : Dev nD) : (dat V c).arrAt 3 cfg1.N = OUT (V c main_arg0) (V c main_v2) (V c main_arg3) := by
  refine (dat V c).arrAt_eq_of_covers 3 _ (by decide +kernel) fun t hf y => ?_
  show blkOut V c t y = OUT (V c main_arg0) (V c main_v2) (V c main_arg3) ((win1_3.rect t).emb y)
  rw [blkOut_eq]
  have e0 : ((win1_3.rect t).emb y 0 : ℕ) = (y 0).val := Window.rect_emb_val_of_index_zero win1_3 t 0 rfl y
  have e1 : ((win1_3.rect t).emb y 1 : ℕ) = (grid1.coords t 0).val * 512 + (y 1).val := by
    rw [Window.rect_emb_val win1_3 t y 1, index3_1]; rfl
  have hy : (y 1).val < 512 := (y 1).isLt
  unfold OUT
  congr 1
  · funext a
    fin_cases a
    apply Fin.ext
    show _ = ((win1_3.rect t).emb y 1 : ℕ) / 512
    rw [e1]; show (grid1.coords t 0).val = _; omega
  · funext a
    fin_cases a
    · exact Fin.ext e0.symm
    · apply Fin.ext
      show (y 1).val = ((win1_3.rect t).emb y 1 : ℕ) % 512
      rw [e1]; omega

/-! ## The region -/

/-- The contents after the region: the result's array at its value, the others as before. -/
def Vout (c : Dev nD) (b : Ref sig .tc) : Buf (Elt F) ((c : Thread nD τ).loc b) :=
  Function.update (V c) main_v3 (OUT (V c main_arg0) (V c main_v2) (V c main_arg3)) b

set_option backward.isDefEq.respectTransparency.types false in
def reg : Pipeline.RegionSeg (pcfgs (F := F)) adm (pdats V adm) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ ∃ W, ⌜(K (F := F)).WBelow (SparseCore.T c) W 8⌝ ∗ owes (c : Thread nD τ) (0 : CellTallies nD τ sig (HIx 1)) W)
  post c := iprop(unscopedBufs c (Vout V c) ∗ ∃ W, ⌜(K (F := F)).WBelow (SparseCore.T c) W 8⌝ ∗ owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none,
      show (pdats V adm 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vout V c) ((pdats V adm 0 c).arrAt · cfg1.N)
      (fun w => by
        fin_cases w
        · exact ((pdats V adm 0 c).arrAt_in 0 rfl _).trans (Function.update_of_ne (show main_arg0 ≠ main_v3 by decide) _ _).symm
        · exact ((pdats V adm 0 c).arrAt_in 1 rfl _).trans (Function.update_of_ne (show main_v2 ≠ main_v3 by decide) _ _).symm
        · exact ((pdats V adm 0 c).arrAt_in 2 rfl _).trans (Function.update_of_ne (show main_arg3 ≠ main_v3 by decide) _ _).symm
        · exact (out_eq V c).trans (Function.update_self (f := V c) main_v3 _).symm)
      (fun b hb => Function.update_of_ne (fun h => hb (Finset.mem_image.mpr ⟨3, Finset.mem_univ _, h.symm⟩)) _ _)
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | h
      · exact h
      · obtain ⟨w, i, rfl⟩ := h
        exact Nat.zero_le _
    iexact HO

end Body

end Cert.Proof

end
-- ==== Proof.Main.lean ====
/-
  The kernel's whole run, over any float values: the host pads the two tables, the SparseCore call writes the dense matrix, the TensorCore's call
  multiplies by it; what every array holds at the end, with every counter back at zero.
-/
module

public import proofs.«01_k».proof.Proof.Join
public import proofs.«01_k».proof.Proof.Region

@[expose] public section

noncomputable section

namespace Cert.Proof

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type}

local notation "𝕄" => MT nD τ sig (HIx 1) (Elt F) ℕ UU ℕ

open Idealize.ShloMosaic.StableHlo (held after wp_hlo_within)
open Idealize.ShloMosaic.SparseCore (S V T)

section Main

variable [FloatOps F] (m : (ℓ : Loc nD τ sig) → Buf (Elt F) ℓ) (ρ : Dev nD → PrngReg)

/-! ## The host's operations and what they leave -/

abbrev opC : HloOp τ sig (Elt F) := StableHlo.nullary main_c (constantI S_ 32 0#32)
abbrev opCv : HloOp τ sig (Elt F) := StableHlo.TRef.unary (.of main_c) main_call0.v0 (sitofp .f32)
abbrev opPd : HloOp τ sig (Elt F) :=
  StableHlo.TRef.binary (.of main_arg1 : StableHlo.TRef sig ⟨S4096x41, .f32⟩) main_call0.v0 main_call0.v1 (fun x v => pad S4096x48 ![0, 0] ![0, 7] ![0, 0] x v pads_S4096x41_S4096x48_000_070 h_S_)
abbrev opC0 : HloOp τ sig (Elt F) := StableHlo.nullary main_c_0 (constantI S_ 32 0#32)
abbrev opCv0 : HloOp τ sig (Elt F) := StableHlo.TRef.unary (.of main_c_0) main_call1.v0 id
abbrev opPd0 : HloOp τ sig (Elt F) :=
  StableHlo.TRef.binary (.of main_arg2 : StableHlo.TRef sig ⟨S4096x41, .i32⟩) main_call1.v0 main_call1.v1 (fun x v => pad S4096x48 ![0, 0] ![0, 7] ![0, 0] x v pads_S4096x41_S4096x48_000_070 h_S_)

/-- The padded values and the padded columns. -/
def FV (d : Dev nD) : Buf (Elt F) (vLoc d) :=
  (pad S4096x48 ![0, 0] ![0, 7] ![0, 0] (m ((SparseCore.T d).loc main_arg1)) (sitofp .f32 (constantI S_ 32 0#32)) pads_S4096x41_S4096x48_000_070 h_S_ : Vec F S4096x48 .f32)
def FC (d : Dev nD) : Buf (Elt F) (cLoc d) :=
  (pad S4096x48 ![0, 0] ![0, 7] ![0, 0] (m ((SparseCore.T d).loc main_arg2)) (constantI S_ 32 0#32) pads_S4096x41_S4096x48_000_070 h_S_ : Vec F S4096x48 .i32)
/-- The dense matrix before the call. -/
abbrev FW (d : Dev nD) : Buf (Elt F) (wLoc d) := m (wLoc d)

abbrev dr (b : Ref sig .tc) : DevRef τ sig := Proc.devRef .tc b
def V0 (d : Dev nD) : Valuation τ sig (Elt F) := fun b => m (d, b)
abbrev V1 (d : Dev nD) : Valuation τ sig (Elt F) := (opC (F := F)).result (V0 m d)
abbrev V2 (d : Dev nD) : Valuation τ sig (Elt F) := (opCv (F := F)).result (V1 m d)
abbrev V3 (d : Dev nD) : Valuation τ sig (Elt F) := (opPd (F := F)).result (V2 m d)
abbrev V4 (d : Dev nD) : Valuation τ sig (Elt F) := (opC0 (F := F)).result (V3 m d)
abbrev V5 (d : Dev nD) : Valuation τ sig (Elt F) := (opCv0 (F := F)).result (V4 m d)
abbrev V6 (d : Dev nD) : Valuation τ sig (Elt F) := (opPd0 (F := F)).result (V5 m d)

/-- The host's operations leave every array but their own results as launched. -/
theorem V6_other (d : Dev nD) (b : DevRef τ sig)
    (hb : b ∉ ({dr main_c, dr main_call0_v0, dr main_v0, dr main_c_0, dr main_call1_v0, dr main_v1} : Finset (DevRef τ sig))) :
    V6 m d b = m (d, b) := by
  simp only [Finset.mem_insert, Finset.mem_singleton, not_or] at hb
  obtain ⟨h1, h2, h3, h4, h5, h6⟩ := hb
  unfold V6 V5 V4 V3 V2 V1
  rw [(opPd0 (F := F)).result_of_not_mem _ (show b ∉ ({dr main_v1} : Finset (DevRef τ sig)) by simpa using h6),
    (opCv0 (F := F)).result_of_not_mem _ (show b ∉ ({dr main_call1_v0} : Finset (DevRef τ sig)) by simpa using h5),
    (opC0 (F := F)).result_of_not_mem _ (show b ∉ ({dr main_c_0} : Finset (DevRef τ sig)) by simpa using h4),
    (opPd (F := F)).result_of_not_mem _ (show b ∉ ({dr main_v0} : Finset (DevRef τ sig)) by simpa using h3),
    (opCv (F := F)).result_of_not_mem _ (show b ∉ ({dr main_call0_v0} : Finset (DevRef τ sig)) by simpa using h2),
    (opC (F := F)).result_of_not_mem _ (show b ∉ ({dr main_c} : Finset (DevRef τ sig)) by simpa using h1)]
  rfl

theorem V6_v0 (d : Dev nD) : V6 m d (dr main_v0) = FV m d := by
  unfold V6 V5 V4
  rw [(opPd0 (F := F)).result_of_not_mem _ (show dr main_v0 ∉ ({dr main_v1} : Finset (DevRef τ sig)) by decide),
    (opCv0 (F := F)).result_of_not_mem _ (show dr main_v0 ∉ ({dr main_call1_v0} : Finset (DevRef τ sig)) by decide),
    (opC0 (F := F)).result_of_not_mem _ (show dr main_v0 ∉ ({dr main_c_0} : Finset (DevRef τ sig)) by decide)]
  have e1 : V2 m d (dr main_arg1) = m ((SparseCore.T d).loc main_arg1) := by
    unfold V2 V1
    rw [(opCv (F := F)).result_of_not_mem _ (show dr main_arg1 ∉ ({dr main_call0_v0} : Finset (DevRef τ sig)) by decide),
      (opC (F := F)).result_of_not_mem _ (show dr main_arg1 ∉ ({dr main_c} : Finset (DevRef τ sig)) by decide)]
    rfl
  have e2 : V2 m d (dr main_call0_v0) = (sitofp .f32 (constantI S_ 32 0#32) : Vec F S_ .f32) := by
    refine (StableHlo.unary_result _ _ _ _ _ _).trans ?_
    exact congrArg (fun v : Vec F S_ .i32 => (sitofp .f32 v : Vec F S_ .f32)) (StableHlo.nullary_result _ _ _ _)
  refine (StableHlo.binary_result _ _ _ _ _ _ _ _).trans ?_
  exact congrArg₂ (fun (x : Vec F S4096x41 .f32) (v : Vec F S_ .f32) =>
    (pad S4096x48 ![0, 0] ![0, 7] ![0, 0] x v pads_S4096x41_S4096x48_000_070 h_S_ : Vec F S4096x48 .f32)) e1 e2

theorem V6_v1 (d : Dev nD) : V6 m d (dr main_v1) = FC m d := by
  have e1 : V5 m d (dr main_arg2) = m ((SparseCore.T d).loc main_arg2) := by
    unfold V5 V4 V3 V2 V1
    rw [(opCv0 (F := F)).result_of_not_mem _ (show dr main_arg2 ∉ ({dr main_call1_v0} : Finset (DevRef τ sig)) by decide),
      (opC0 (F := F)).result_of_not_mem _ (show dr main_arg2 ∉ ({dr main_c_0} : Finset (DevRef τ sig)) by decide),
      (opPd (F := F)).result_of_not_mem _ (show dr main_arg2 ∉ ({dr main_v0} : Finset (DevRef τ sig)) by decide),
      (opCv (F := F)).result_of_not_mem _ (show dr main_arg2 ∉ ({dr main_call0_v0} : Finset (DevRef τ sig)) by decide),
      (opC (F := F)).result_of_not_mem _ (show dr main_arg2 ∉ ({dr main_c} : Finset (DevRef τ sig)) by decide)]
    rfl
  have e2 : V5 m d (dr main_call1_v0) = (constantI S_ 32 0#32 : Vec F S_ .i32) := by
    refine (StableHlo.unary_result _ _ _ _ _ _).trans ?_
    show V4 m d (dr main_c_0) = _
    exact StableHlo.nullary_result _ _ _ _
  refine (StableHlo.binary_result _ _ _ _ _ _ _ _).trans ?_
  exact congrArg₂ (fun (x : Vec F S4096x41 .i32) (v : Vec F S_ .i32) =>
    (pad S4096x48 ![0, 0] ![0, 7] ![0, 0] x v pads_S4096x41_S4096x48_000_070 h_S_ : Vec F S4096x48 .i32)) e1 e2

/-! ## The TensorCore's arrays -/

/-- Every array of the TensorCore's program. -/
def ucRefs : Finset (DevRef τ sig) := (StableHlo.tcRefs τ sig).filter fun b => ¬ b.isScoped

omit [FloatOps F] in
theorem unscopedBufs_held (d : Dev nD) (W : Valuation τ sig (Elt F)) :
    (unscopedBufs d (fun b => W (dr b)) : sProp 𝕄) = held (SparseCore.T d) ucRefs W := by
  unfold unscopedBufs StableHlo.held ucRefs StableHlo.tcRefs
  rw [Finset.filter_map, bigSep_map]
  rfl

/-- All of them but the two padded tables and the dense matrix. -/
def restRefs : Finset (Ref sig .tc) := (((Finset.univ.filter fun b : Ref sig .tc => ¬ b.isScoped).erase main_v0).erase main_v1).erase main_v2

omit [FloatOps F] in
theorem unscopedBufs_call (d : Dev nD) (W : (b : Ref sig .tc) → Buf (Elt F) ((d.tc : Thread nD τ).loc b)) :
    (unscopedBufs d W : sProp 𝕄) = iprop((vLoc d ↦{fullShare} W main_v0) ∗ (cLoc d ↦{fullShare} W main_v1) ∗ (wLoc d ↦{fullShare} W main_v2)
      ∗ bigSep restRefs fun b => (d.tc : Thread nD τ).loc b ↦{fullShare} W b) := by
  unfold unscopedBufs restRefs
  rw [SparseCore.bigSep_erase' (show main_v0 ∈ (Finset.univ.filter fun b : Ref sig .tc => ¬ b.isScoped) by decide),
    SparseCore.bigSep_erase' (show main_v1 ∈ (Finset.univ.filter fun b : Ref sig .tc => ¬ b.isScoped).erase main_v0 by decide),
    SparseCore.bigSep_erase' (show main_v2 ∈ ((Finset.univ.filter fun b : Ref sig .tc => ¬ b.isScoped).erase main_v0).erase main_v1 by decide)]

/-- The arrays' contents before the SparseCore call, and after it. -/
def VA (d : Dev nD) (b : Ref sig .tc) : Buf (Elt F) ((d.tc : Thread nD τ).loc b) := V6 m d (dr b)
def VB (d : Dev nD) (b : Ref sig .tc) : Buf (Elt F) ((d.tc : Thread nD τ).loc b) :=
  Function.update (VA m d) main_v2 (fwd (FV m) (FC m) d) b

theorem VA_call (d : Dev nD) : (held (SparseCore.T d) ucRefs (V6 m d) : sProp 𝕄)
    = iprop((vLoc d ↦{fullShare} FV m d) ∗ (cLoc d ↦{fullShare} FC m d) ∗ (wLoc d ↦{fullShare} FW m d)
      ∗ bigSep restRefs fun b => (d.tc : Thread nD τ).loc b ↦{fullShare} VA m d b) := by
  rw [← unscopedBufs_held, unscopedBufs_call, V6_v0, V6_v1, V6_other m d (dr main_v2) (by decide)]
  rfl

theorem VB_call (d : Dev nD) : (unscopedBufs d (VB m d) : sProp 𝕄)
    = iprop((vLoc d ↦{fullShare} FV m d) ∗ (cLoc d ↦{fullShare} FC m d) ∗ (wLoc d ↦{fullShare} fwd (FV m) (FC m) d)
      ∗ bigSep restRefs fun b => (d.tc : Thread nD τ).loc b ↦{fullShare} VA m d b) := by
  have h0 : VB m d main_v0 = FV m d := (Function.update_of_ne (show main_v0 ≠ main_v2 by decide) _ _).trans (V6_v0 m d)
  have h1 : VB m d main_v1 = FC m d := (Function.update_of_ne (show main_v1 ≠ main_v2 by decide) _ _).trans (V6_v1 m d)
  have h2 : VB m d main_v2 = fwd (FV m) (FC m) d := Function.update_self _ _ _
  rw [unscopedBufs_call, h0, h1, h2]
  rw [bigSep_congr (s := restRefs) (Φ := fun b => ((d.tc : Thread nD τ).loc b ↦{fullShare} VB m d b : sProp 𝕄))
    (Ψ := fun b => ((d.tc : Thread nD τ).loc b ↦{fullShare} VA m d b : sProp 𝕄)) fun b hb => by
      have hne : b ≠ main_v2 := fun e => Finset.notMem_erase main_v2 _ (e ▸ hb)
      rw [show VB m d b = VA m d b from Function.update_of_ne hne _ _]]

theorem hC : (opC (F := F)).bufs ⊆ ucRefs := show ({dr main_c} : Finset (DevRef τ sig)) ⊆ ucRefs by decide
theorem hCv : (opCv (F := F)).bufs ⊆ ucRefs := show ({dr main_c, dr main_call0_v0} : Finset (DevRef τ sig)) ⊆ ucRefs by decide
theorem hPd : (opPd (F := F)).bufs ⊆ ucRefs := show ({dr main_arg1, dr main_call0_v0, dr main_v0} : Finset (DevRef τ sig)) ⊆ ucRefs by decide
theorem hC0 : (opC0 (F := F)).bufs ⊆ ucRefs := show ({dr main_c_0} : Finset (DevRef τ sig)) ⊆ ucRefs by decide
theorem hCv0 : (opCv0 (F := F)).bufs ⊆ ucRefs := show ({dr main_c_0, dr main_call1_v0} : Finset (DevRef τ sig)) ⊆ ucRefs by decide
theorem hPd0 : (opPd0 (F := F)).bufs ⊆ ucRefs := show ({dr main_arg2, dr main_call1_v0, dr main_v1} : Finset (DevRef τ sig)) ⊆ ucRefs by decide

/-! ## The launch element -/

abbrev adm : (p : Fin 1) → (pcfgs (F := F) p).Adm := fun p => (cfgs p).toPCfg_adm

abbrev pn : Fin 1 → Pipeline.Cfg sig Λ₀ := Pipeline.pin (pcfgs (F := F)) adm

def u₀ : UU := (initOf (K (F := F)).hsCells (K (F := F)).hsToks,
  (initOf (Pipeline.cells (nD := nD) (τ := τ) (pn (F := F)) cellOf_inj) (Pipeline.launchToks (nD := nD) (τ := τ) (pn (F := F)) cellOf_inj), 1))

/-- What the TensorCore's call starts from beside its arrays: the state of its transfers. -/
def G (d : Dev nD) : sProp 𝕄 := iprop(Pipeline.cellsGhost (pn (F := F)) EP 0 d ∗ Pipeline.toksInit (pn (F := F)) EP 0 d)

omit [FloatOps F] in
theorem ownU_split (a : UH) (b : UP) : (ownU (a, (b, (1 : Counters))) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem G_eq : iprop((bigSep Finset.univ fun c : Dev nD => bigSep Finset.univ fun p : Fin 1 => (Pipeline.cellsGhost (pn (F := F)) EP p c : sProp 𝕄))
      ∗ bigSep Finset.univ fun c : Dev nD => bigSep Finset.univ fun p : Fin 1 => (Pipeline.toksInit (pn (F := F)) EP p c : sProp 𝕄))
    = bigSep Finset.univ (G (F := F)) := by
  rw [show G (F := F) = fun d => iprop(Pipeline.cellsGhost (pn (F := F)) EP 0 d ∗ Pipeline.toksInit (pn (F := F)) EP 0 d) from rfl, bigSep_sep',
    show (bigSep Finset.univ fun c : Dev nD => bigSep Finset.univ fun p : Fin 1 => (Pipeline.cellsGhost (pn (F := F)) EP p c : sProp 𝕄))
      = bigSep Finset.univ fun c : Dev nD => Pipeline.cellsGhost (pn (F := F)) EP 0 c from
      bigSep_congr fun c _ => bigSep_univ_of_subsingleton (0 : Fin 1),
    show (bigSep Finset.univ fun c : Dev nD => bigSep Finset.univ fun p : Fin 1 => (Pipeline.toksInit (pn (F := F)) EP p c : sProp 𝕄))
      = bigSep Finset.univ fun c : Dev nD => Pipeline.toksInit (pn (F := F)) EP 0 c from
      bigSep_congr fun c _ => bigSep_univ_of_subsingleton (0 : Fin 1)]

theorem ghost_intro : (BI.own (EP (initOf (Pipeline.cells (nD := nD) (τ := τ) (pn (F := F)) cellOf_inj)
    (Pipeline.launchToks (nD := nD) (τ := τ) (pn (F := F)) cellOf_inj))) : sProp 𝕄) ⊢ iprop(|==> bigSep Finset.univ (G (F := F))) := by
  iintro H
  imod (Pipeline.fund_ghost (pn (F := F)) EP cellOf_inj) $$ H with ⟨Hc, Ht⟩
  imodintro
  iapply (Entails.of_eq G_eq)
  isplitl [Hc] <;> iassumption

theorem Px (thr : Thread nD τ) : (bigSep Finset.univ fun q : Fin 1 => (P (F := F) (FV m) (FC m) (FW m)).x q thr) = iprop(emp) :=
  bigSep_univ_of_subsingleton (0 : Fin 1)

theorem Px_all : (bigSep Finset.univ fun thr : Thread nD τ => bigSep Finset.univ fun q : Fin 1 => (P (F := F) (FV m) (FC m) (FW m)).x q thr) = iprop(emp) :=
  (bigSep_congr fun thr _ => Px m thr).trans (bigSep_emp_const _)

theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P (FV m) (FC m) (FW m)).x q thr) := by
  unfold u₀
  iintro Hu
  ihave H := (ownU_split _ _) $$ Hu
  icases H with ⟨HH, HK⟩
  imod (ghost_intro) $$ HK with HG
  imodintro
  isplitl [HH]; · iexact HH
  isplitl [HG]; · iexact HG
  iapply (Entails.of_eq (Px_all m).symm)
  iempintro

/-! ## The program -/

/-- What the TensorCore leaves: every array of its own at its final contents. -/
abbrev FIN (d : Dev nD) : sProp 𝕄 := unscopedBufs d (Vout (VB m) d)

/-- The TensorCore's call, as its own program has it. -/
abbrev tcCall : Prog (TpuEff nD τ sig (Elt F) (ΛP (F := F)) .tc) PUnit := .op (.customCall (Pipeline.entry 0) ()) fun _ => .ret ⟨⟩

theorem region_wp₀ [∀ e, Nonempty (Elt F e)] (d : Dev nD) (W : Waits sig (HIx 1)) (hW : (K (F := F)).WBelow (SparseCore.T d) W 8) :
    iprop(boundary (SparseCore.T d) ∗ unscopedBufs d (VB m d) ∗ owes (SparseCore.T d) (0 : CellTallies nD τ sig (HIx 1)) W
        ∗ levAts (K (F := F)).L (K (F := F)).lev ∗ G (F := F) d)
      ⊢ wp frame (wpE (D (F := F)) 𝒱 (SparseCore.T d) none) Set.univ
          (tcCall (F := F))
          fun _ => iprop(boundary (SparseCore.T d) ∗ FIN m d
            ∗ ∃ W', ⌜(K (F := F)).WBelow (SparseCore.T d) W' 8⌝ ∗ owes (SparseCore.T d) (0 : CellTallies nD τ sig (HIx 1)) W') := by
  have hr := fun Q => Pipeline.RegionSeg.wp (pcfgs (F := F)) adm (pdats (VB m) adm) (none : HIx 1) cellOf_inj EP defs₀ 𝒱₀ (K (F := F)).L (K (F := F)).lev
    (reg (VB m) adm) d none (fun u hu => by cases hu) (fun _ => .ret (⟨⟩ : PUnit)) Q
  unfold G
  iintro ⟨Hb, Hub, HO, #Hlev, Hg, Ht⟩
  iapply (hr _)
  isplitr [Hb Hub HO Hg Ht]
  · iintro ⟨Hb, Hpost⟩
    rw [wp_ret]; imodintro
    isplitl [Hb]; · iexact Hb
    unfold reg
    iexact Hpost
  isplitl [Hb]; · iexact Hb
  isplitl [Hub HO]
  · unfold reg
    isplitl [Hub]; · iexact Hub
    iexists W; isplitr
    · ipureintro; exact hW
    iexact HO
  isplitr; · iexact Hlev
  isplitl [Hg] <;> iassumption

theorem region_wp [∀ e, Nonempty (Elt F e)] (d : Dev nD) (W : Waits sig (HIx 1)) (hW : (K (F := F)).WBelow (SparseCore.T d) W 8) :
    iprop(boundary (SparseCore.T d) ∗ unscopedBufs d (VB m d) ∗ owes (SparseCore.T d) (0 : CellTallies nD τ sig (HIx 1)) W
        ∗ levAts (K (F := F)).L (K (F := F)).lev ∗ G (F := F) d)
      ⊢ wp frame (wpE ((K (F := F)).defs (D (F := F))) 𝒱 (SparseCore.T d) none) Set.univ
          (Prog.lift (TpuEff.customCall (SparseCore.inner (Pipeline.entry 0)) ()))
          fun _ => iprop(boundary (SparseCore.T d) ∗ FIN m d
            ∗ ∃ W', ⌜(K (F := F)).WBelow (SparseCore.T d) W' 8⌝ ∗ owes (SparseCore.T d) (0 : CellTallies nD τ sig (HIx 1)) W') := by
  have hl := (K (F := F)).wp_liftProg (Name := ℕ) (U := UU) (D (F := F)) 𝒱 (SparseCore.T d) Set.univ none (tcCall (F := F))
    (fun _ => iprop(boundary (SparseCore.T d) ∗ FIN m d
            ∗ ∃ W', ⌜(K (F := F)).WBelow (SparseCore.T d) W' 8⌝ ∗ owes (SparseCore.T d) (0 : CellTallies nD τ sig (HIx 1)) W'))
  exact BI.Entails.trans (region_wp₀ m d W hW) hl

theorem hmain [∀ e, Nonempty (Elt F e)] (κ : GSem nD τ sig → ℕ) (d : Dev nD) :
    iprop((K (F := F)).ctx EH (P (FV m) (FC m) (FW m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) ucRefs (V0 m d) from unscopedBufs_held d (V0 m d)]
  simp only [main, fn_pad.body, fn_pad_0.body, wp_bind, wp_pure]
  iintro ⟨#Hctx, Hst, ⟨Hb, Hheld, Hts, -⟩, HG⟩
  iapply (wp_hlo_within 𝒱 (SparseCore.T d) none Set.univ (op := opC) (S := ucRefs) hC (V := V0 m d)) $$ [Hb Hheld]
  · isplitl [Hb] <;> iassumption
  iintro ⟨Hb, Hheld⟩
  rw [wp_ret]; imodintro
  iapply (wp_hlo_within 𝒱 (SparseCore.T d) none Set.univ (op := opCv) (S := ucRefs) hCv (V := V1 m d)) $$ [Hb Hheld]
  · isplitl [Hb] <;> iassumption
  iintro ⟨Hb, Hheld⟩
  rw [wp_ret]; imodintro
  iapply (wp_hlo_within 𝒱 (SparseCore.T d) none Set.univ (op := opPd) (S := ucRefs) hPd (V := V2 m d)) $$ [Hb Hheld]
  · isplitl [Hb] <;> iassumption
  iintro ⟨Hb, Hheld⟩
  rw [wp_ret]; imodintro; imodintro
  iapply (wp_hlo_within 𝒱 (SparseCore.T d) none Set.univ (op := opC0) (S := ucRefs) hC0 (V := V3 m d)) $$ [Hb Hheld]
  · isplitl [Hb] <;> iassumption
  iintro ⟨Hb, Hheld⟩
  rw [wp_ret]; imodintro
  iapply (wp_hlo_within 𝒱 (SparseCore.T d) none Set.univ (op := opCv0) (S := ucRefs) hCv0 (V := V4 m d)) $$ [Hb Hheld]
  · isplitl [Hb] <;> iassumption
  iintro ⟨Hb, Hheld⟩
  rw [wp_ret]; imodintro
  iapply (wp_hlo_within 𝒱 (SparseCore.T d) none Set.univ (op := opPd0) (S := ucRefs) hPd0 (V := V5 m d)) $$ [Hb Hheld]
  · isplitl [Hb] <;> iassumption
  iintro ⟨Hb, Hheld⟩
  rw [wp_ret]; imodintro; imodintro
  -- the SparseCore call
  ihave Hh := (Entails.of_eq (VA_call m d)) $$ Hheld
  icases Hh with ⟨Hv, Hc, Hw, Hrest⟩
  iapply ((K (F := F)).wp_run (D (F := F)) 𝒱 (EH := EH) (P := P (FV m) (FC m) (FW m)) κ d 0) $$ [Hst Hv Hc Hw Hb Hrest Hts HG]
  isplitr; · iexact Hctx
  isplitl [Hst]; · iexact Hst
  isplitl [Hv Hc Hw]
  · iapply (Entails.of_eq (st0_eq (FV m) (FC m) (FW m) d).symm)
    isplitl [Hv]; · iexact Hv
    isplitl [Hc]; · iexact Hc
    iexact Hw
  iintro ⟨Hst, Hdn⟩
  ihave Hdn' := (Entails.of_eq (dn0_eq (FV m) (FC m) (FW m) d)) $$ Hdn
  icases Hdn' with ⟨Hv, Hc, Hw⟩
  ihave Hub := (Entails.of_eq (VB_call m d).symm) $$ [Hv Hc Hw Hrest]
  · isplitl [Hv]; · iexact Hv
    isplitl [Hc]; · iexact Hc
    isplitl [Hw]; · iexact Hw
    iexact Hrest
  -- the TensorCore's call
  ihave #Hlev := ((K (F := F)).ctx_levAts κ) $$ Hctx
  unfold SparseCore.Cfg.tcSt
  icases Hst with ⟨⟨%W, %hW, HO⟩, Hst⟩
  have e0 : (K (F := F)).Otc (N := 1) d ((0 : Fin 1).val + 1) = 0 := (K (F := F)).Otc_end d (le_refl 1)
  have e1 : (K (F := F)).Otc (N := 1) d 1 = 0 := (K (F := F)).Otc_end d (le_refl 1)
  have hZ : 8 * SparseCore.Cfg.Blocks.fst 1 1 ((0 : Fin 1).val + 1) = 8 := rfl
  have hZ' : 8 * SparseCore.Cfg.Blocks.fst 1 1 1 = 8 := rfl
  rw [hZ] at hW
  rw [e0, e1, hZ']
  iapply (wp_wand _ _ _) $$ [Hb Hub HO HG]
  · iapply (region_wp m d W hW)
    isplitl [Hb]; · iexact Hb
    isplitl [Hub]; · iexact Hub
    isplitl [HO]; · iexact HO
    isplitr; · iexact Hlev
    iexact HG
  iintro %_ ⟨Hb, Hub, HO⟩
  imodintro
  isplitl [HO Hst]
  · isplitl [HO]; · iexact HO
    iexact Hst
  isplitl [Hub]; · iexact Hub
  isplitl [Hb] <;> iassumption

/-! ## What the final memory holds -/

/-- The final contents of device `d`'s arrays that the claims read: the arguments as launched, and the result. -/
def fq (d : Dev nD) (s' : Phys nD τ sig (Elt F)) : Prop :=
  s'.mem.mem ((SparseCore.T d).loc main_v3)
      = (OUT (m ((SparseCore.T d).loc main_arg0)) (WD (FC m d) (FV m d)) (m ((SparseCore.T d).loc main_arg3)) : Vec F S256x4096 .f32)
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)

omit [FloatOps F] in
/-- Any of the TensorCore's arrays, read off the final memory. -/
theorem read_final (d : Dev nD) (W : (b : Ref sig .tc) → Buf (Elt F) ((d.tc : Thread nD τ).loc b)) (s' : Phys nD τ sig (Elt F)) (b : Ref sig .tc)
    (hb : b ∈ Finset.univ.filter fun b : Ref sig .tc => ¬ b.isScoped) :
    iprop(unscopedBufs d W ∗ SI s') ⊢ (⌜s'.mem.mem ((d.tc : Thread nD τ).loc b) = W b⌝ : sProp 𝕄) := by
  unfold unscopedBufs
  rw [SparseCore.bigSep_erase' hb]
  iintro ⟨⟨Hx, -⟩, HSI⟩
  ihave H := (SI_pointsTo_agree (st := s') (ℓ := (d.tc : Thread nD τ).loc b) (I := Finset.univ) (q := fullShare) (f := W b)) $$ [HSI Hx]
  · isplitl [HSI] <;> iassumption
  icases H with %hx
  ipureintro; exact funext fun i => hx i (Finset.mem_univ i)

theorem VB_arg (d : Dev nD) (b : Ref sig .tc) (hb : b ≠ main_v2)
    (hb' : dr b ∉ ({dr main_c, dr main_call0_v0, dr main_v0, dr main_c_0, dr main_call1_v0, dr main_v1} : Finset (DevRef τ sig))) :
    VB m d b = m ((SparseCore.T d).loc b) :=
  (Function.update_of_ne hb _ _).trans (V6_other m d (dr b) hb')

theorem Vout_arg (d : Dev nD) (b : Ref sig .tc) (hb : b ≠ main_v2) (hb3 : b ≠ main_v3)
    (hb' : dr b ∉ ({dr main_c, dr main_call0_v0, dr main_v0, dr main_c_0, dr main_call1_v0, dr main_v1} : Finset (DevRef τ sig))) :
    Vout (VB m) d b = m ((SparseCore.T d).loc b) :=
  (Function.update_of_ne hb3 _ _).trans (VB_arg m d b hb hb')

theorem Vout_res (d : Dev nD) : Vout (VB m) d main_v3
    = (OUT (m ((SparseCore.T d).loc main_arg0)) (WD (FC m d) (FV m d)) (m ((SparseCore.T d).loc main_arg3)) : Vec F S256x4096 .f32) := by
  refine (Function.update_self _ _ _).trans ?_
  rw [VB_arg m d main_arg0 (by decide) (by decide), VB_arg m d main_arg3 (by decide) (by decide)]
  rw [show VB m d main_v2 = fwd (FV m) (FC m) d from Function.update_self _ _ _]

theorem hfin (d : Dev nD) (s' : Phys nD τ sig (Elt F)) : iprop(FIN m d ∗ SI s') ⊢ (⌜fq m d s'⌝ : sProp 𝕄) := by
  iintro H
  ihave H := (persistent_entails_right (read_final d (Vout (VB m) d) s' main_v3 (by decide))) $$ H
  icases H with ⟨%h3, H⟩
  ihave H := (persistent_entails_right (read_final d (Vout (VB m) d) s' main_arg0 (by decide))) $$ H
  icases H with ⟨%a0, H⟩
  ihave H := (persistent_entails_right (read_final d (Vout (VB m) d) s' main_arg1 (by decide))) $$ H
  icases H with ⟨%a1, H⟩
  ihave H := (persistent_entails_right (read_final d (Vout (VB m) d) s' main_arg2 (by decide))) $$ H
  icases H with ⟨%a2, H⟩
  ihave H := (read_final d (Vout (VB m) d) s' main_arg3 (by decide)) $$ H
  icases H with %a3
  ipureintro
  exact ⟨h3.trans (Vout_res m d), a0.trans (Vout_arg m d _ (by decide) (by decide) (by decide)), a1.trans (Vout_arg m d _ (by decide) (by decide) (by decide)),
    a2.trans (Vout_arg m d _ (by decide) (by decide) (by decide)), a3.trans (Vout_arg m d _ (by decide) (by decide) (by decide))⟩

/-! ## The run -/

def QC : PUnit × MemSt nD τ sig (Elt F) → Prop := fun r => (∀ d : Dev nD,
  r.2.mem ((SparseCore.T d).loc main_v3)
      = (OUT (m ((SparseCore.T d).loc main_arg0)) (WD (FC m d) (FV m d)) (m ((SparseCore.T d).loc main_arg3)) : Vec F S256x4096 .f32)
    ∧ r.2.mem ((SparseCore.T d).loc main_arg0) = m ((SparseCore.T d).loc main_arg0)
    ∧ r.2.mem ((SparseCore.T d).loc main_arg1) = m ((SparseCore.T d).loc main_arg1)
    ∧ r.2.mem ((SparseCore.T d).loc main_arg2) = m ((SparseCore.T d).loc main_arg2)
    ∧ r.2.mem ((SparseCore.T d).loc main_arg3) = m ((SparseCore.T d).loc main_arg3)) ∧ r.2.sem = fun _ => 0

/-- From any memory whose padded columns are in range the whole program ends, with the arguments as launched, the result the product with the dense
    matrix plus the bias, and every counter at zero. -/
theorem run_main [∀ e, Nonempty (Elt F e)] (hc : ColsOK (FC m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (FV m) (FC m) (FW m)) (A := ∅) facts v₀
    (fun q hq => match q with | 0 => nomatch hq)
    (fun q _ => match q with | 0 => tileObl (FV m) (FC m) (FW m) hc)
    (fun q _ => match q with | 0 => SparseCore.Cfg.VecSplit.of_plain (vecSplit (FV m) (FC m) (FW m)))
    m ρ main (G (F := F)) (FIN m) (u₀ (F := F)) (sep_elim_left.trans (hu₀ m)) (hmain m ρ) (fq m) (hfin m) (QC m) (fun _ h hz => ⟨h, hz⟩)

end Main

end Cert.Proof

end
-- ==== Proof.Range.lean ====
/-
  What the two preconditions say, read element by element: every column is below 4096, and (for the finite one) no element of
  the input or of the values is an infinity. And the padded tables, read at an index: the given entry in the first 41 places of a
  row, zero in the last seven.
-/
module

public import proofs.«01_k».proof.Proof.Main
public import proofs.«01_k».proof.Proof.Gen.Pre_in_range
public import proofs.«01_k».proof.Proof.Gen.Pre_finite_in_range
public import Idealize.ShloMosaic.Lib.ReduceAll
public import Idealize.ShloMosaic.Lib.KernelVsHost

@[expose] public section

noncomputable section

namespace Cert.Proof

open Cert.KernelIdeal Cert.KernelIdeal.Gen
open Idealize.ShloMosaic Idealize.ShloMosaic.TcCoe

variable {F : FTy → Type} [FloatOps F]

instance oneIdx : Subsingleton S_.Idx := ⟨fun a b => funext fun k => k.elim0⟩

/-- The one index of a scalar. -/
def at0 : S_.Idx := fun k => k.elim0

theorem andi_bits (a b : Bool) : IntOp.andi (BitVec.ofBool a) (BitVec.ofBool b) = BitVec.ofBool (a && b) := by cases a <;> cases b <;> rfl

theorem bit_one (a : Bool) : BitVec.ofBool a = 1#1 ↔ a = true := by cases a <;> decide

/-- A signed word between 0 and 4095 is a natural below 4096. -/
theorem word_lt (w : BitVec 32) (e : IntOp.andi (IntOp.cmpi .sge w 0#32) (IntOp.cmpi .slt w 4096#32) = 1#1) : w.toNat < 4096 := by
  simp only [IntOp.cmpi, andi_bits, bit_one, Bool.and_eq_true, BitVec.sle_eq_decide, BitVec.slt_eq_decide, decide_eq_true_eq, BitVec.toInt_eq_toNat_cond,
    BitVec.toNat_ofNat, Nat.reducePow, Nat.reduceMod] at e
  have := w.isLt
  omega

theorem and_one {a b : BitVec 1} (h : IntOp.andi a b = 1#1) : a = 1#1 ∧ b = 1#1 := IntOp.andi_eq_one.1 h

/-- The index range, read at an entry. -/
theorem cols_in_range (x : FVec F S256x4096 .f32) (w : FVec F S4096x41 .f32) (c : IVec S4096x41 32) (b : FVec F S4096 .f32)
    (h : Cert.Pre_in_range.fn x w c b = fun _ => 1#1) (i : S4096x41.Idx) : (c i).toNat < 4096 := by
  dsimp only [Cert.Pre_in_range.fn] at h
  exact word_lt _ (Host.reduce_andi_all _ _ _ _ _ (congrFun h at0) i)

/-- The same out of the precondition that also asks for finite floats. -/
theorem cols_in_range' (x : FVec F S256x4096 .f32) (w : FVec F S4096x41 .f32) (c : IVec S4096x41 32) (b : FVec F S4096 .f32)
    (h : Cert.Pre_finite_in_range.fn x w c b = fun _ => 1#1) (i : S4096x41.Idx) : (c i).toNat < 4096 := by
  dsimp only [Cert.Pre_finite_in_range.fn] at h
  exact word_lt _ (Host.reduce_andi_all _ _ _ _ _ (and_one (and_one (congrFun h at0)).1).1 i)

/-- An extended real whose absolute value is below plus infinity is a real. -/
theorem real_of_abs (a : Ideal .f32) (h : FloatOps.cmpf (F := Ideal) .olt (FloatOps.hostAbsf a) (FloatOps.ofBits (F := Ideal) .f32 0x7F800000#32) = 1#1) :
    ∃ r : ℝ, a = (r : EReal) := by
  have htop : Ideal.ofBits .f32 0x7F800000#32 = ⊤ := by simp [Ideal.ofBits, Ideal.ieee]
  have h' : Ideal.cmp .olt (max (a : EReal) (-(a : EReal))) (Ideal.ofBits .f32 0x7F800000#32) = 1#1 := h
  rw [htop] at h'
  have h2 : max (a : EReal) (-(a : EReal)) < ⊤ := by
    simpa only [Ideal.cmp, bit_one, decide_eq_true_eq] using h'
  rw [max_lt_iff] at h2
  refine ⟨EReal.toReal a, (EReal.coe_toReal h2.1.ne fun hb => ?_).symm⟩
  have := h2.2
  rw [hb] at this
  exact absurd this (by simp)

/-- The input's elements are real. -/
theorem input_real (x : FVec Ideal S256x4096 .f32) (w : FVec Ideal S4096x41 .f32) (c : IVec S4096x41 32) (b : FVec Ideal S4096 .f32)
    (h : Cert.Pre_finite_in_range.fn x w c b = fun _ => 1#1) (i : S256x4096.Idx) : ∃ r : ℝ, x i = (r : EReal) := by
  dsimp only [Cert.Pre_finite_in_range.fn] at h
  exact real_of_abs _ (Host.reduce_andi_all _ _ _ _ _ (and_one (and_one (congrFun h at0)).1).2 i)

/-- The values are real. -/
theorem vals_real (x : FVec Ideal S256x4096 .f32) (w : FVec Ideal S4096x41 .f32) (c : IVec S4096x41 32) (b : FVec Ideal S4096 .f32)
    (h : Cert.Pre_finite_in_range.fn x w c b = fun _ => 1#1) (i : S4096x41.Idx) : ∃ r : ℝ, w i = (r : EReal) := by
  dsimp only [Cert.Pre_finite_in_range.fn] at h
  exact real_of_abs _ (Host.reduce_andi_all _ _ _ _ _ (and_one (congrFun h at0)).2 i)

/-! ## The padded tables -/

/-- The index of row `n`, entry `k` of the given tables. -/
def ixW (n : Fin 4096) (k : Fin 41) : S4096x41.Idx :=
  fun | 0 => n | 1 => k | ⟨_ + 2, h⟩ => absurd h (Nat.not_lt.2 (Nat.le_add_left _ _))

theorem padded_in {α : Type} (x : S4096x41.Idx → α) (v : S_.Idx → α) (n : Fin 4096) (k : Fin 41) :
    pad S4096x48 ![0, 0] ![0, 7] ![0, 0] x v pads_S4096x41_S4096x48_000_070 h_S_ (ixH n.val k.val) = x (ixW n k) := by
  refine pad_apply_of_inside _ _ _ _ _ _ _ _ _ fun a => ?_
  match a with
  | 0 => simpa [ixH, ixW] using Nat.mod_eq_of_lt n.isLt
  | 1 => simpa [ixH, ixW] using Nat.mod_eq_of_lt (show k.val < 48 by omega)

theorem padded_out {α : Type} (x : S4096x41.Idx → α) (v : S_.Idx → α) (n k : ℕ) (hk : 41 ≤ k) (hk' : k < 48) :
    pad S4096x48 ![0, 0] ![0, 7] ![0, 0] x v pads_S4096x41_S4096x48_000_070 h_S_ (ixH n k) = v (Shape.Idx.first h_S_) := by
  refine pad_apply_of_not_inside _ _ _ _ _ _ _ _ 1 fun h => ?_
  have h2 : (k % 48 - 0) / (0 + 1) < 41 := h.2.2
  rw [Nat.mod_eq_of_lt hk'] at h2
  omega

/-- Whatever index of the padded table: an entry of the given one, or the padding. -/
theorem padded_cases {α : Type} (x : S4096x41.Idx → α) (v : S_.Idx → α) (i : S4096x48.Idx) :
    (∃ j, pad S4096x48 ![0, 0] ![0, 7] ![0, 0] x v pads_S4096x41_S4096x48_000_070 h_S_ i = x j)
      ∨ pad S4096x48 ![0, 0] ![0, 7] ![0, 0] x v pads_S4096x41_S4096x48_000_070 h_S_ i = v (Shape.Idx.first h_S_) := by
  unfold pad
  split
  · exact .inl ⟨_, rfl⟩
  · exact .inr rfl

/-- Columns in range stay in range under the padding. -/
theorem colsOK (m : (ℓ : Loc nD τ sig) → Buf (Elt F) ℓ)
    (h : ∀ (d : Dev nD) (i : S4096x41.Idx), ((m ((SparseCore.T d).loc main_arg2) : Vec F S4096x41 .i32) i).toNat < 4096) : ColsOK (FC m) := by
  intro d i
  rcases padded_cases (m ((SparseCore.T d).loc main_arg2) : Vec F S4096x41 .i32) (constantI S_ 32 0#32) i with ⟨j, e⟩ | e
  · exact (congrArg BitVec.toNat e).trans_lt (h d j)
  · exact (congrArg BitVec.toNat e).trans_lt (by decide)

end Cert.Proof

end
-- ==== Proof.Frames.lean ====
/-
  The frames: the kernel at its own floats and at exact ones under either precondition, and the reference. Each program ends with
  its arguments as launched and every counter at zero.
-/
module

public import proofs.«01_k».proof.Proof.Range
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The kernel's text at its own floats and its text at exact values have the same bodies, processor by processor. -/
theorem defs₀_eq : Cert.Kernel.defs₀ (F := Bits) = Cert.KernelIdeal.defs₀ (F := Bits) := by
  funext p l a
  match p, l, a with
  | .tc, 0, _ => rfl
  | .tc, 1, _ => rfl
  | .scScalar _, 0, _ => rfl
  | .scScalar _, 1, _ => rfl
  | .scVector _ _, 0, _ => rfl
  | .scVector _ _, 1, _ => rfl

theorem defs_eq : Cert.Kernel.defs (F := Bits) = Cert.KernelIdeal.defs (F := Bits) :=
  congrArg (fun D => (Cert.KernelIdeal.sc (F := Bits)).defs (Pipeline.defs Cert.KernelIdeal.pcfgs D)) defs₀_eq

/-- The kernel, at its own floats. -/
theorem frame_kernel : Cert.quiescent_Kernel := by
  intro m ρ hpre
  rw [defs_eq]
  exact (θ_run Cert.KernelIdeal.defs Cert.KernelIdeal.threads _).mono (fun (_ : PUnit × MemSt Cert.KernelIdeal.nD Cert.KernelIdeal.τ Cert.KernelIdeal.sig (Elt Bits)) h => ⟨fun c => (h.1 c).2, h.2⟩)
    (run_main (F := Bits) m ρ (colsOK m fun d => cols_in_range (F := Bits) _ _ _ _ (hpre d)))

/-- The kernel, at exact values. -/
theorem frame_kernelIdeal : Cert.quiescent_KernelIdeal := fun m ρ hpre =>
  (θ_run Cert.KernelIdeal.defs _ _).mono (fun _ h => ⟨fun c => (h.1 c).2, h.2⟩)
    (run_main (F := Ideal) m ρ (colsOK m fun d => cols_in_range _ _ _ _ (hpre d)))

/-- The same where the floats are finite too. -/
theorem frame_kernelIdeal_finite : Cert.quiescent_KernelIdeal_pre_finite_in_range := fun m ρ hpre =>
  (θ_run Cert.KernelIdeal.defs _ _).mono (fun _ h => ⟨fun c => (h.1 c).2, h.2⟩)
    (run_main (F := Ideal) m ρ (colsOK m fun d => cols_in_range' _ _ _ _ (hpre d)))

/-- The reference. -/
theorem frame_reference : Cert.quiescent_ReferenceIdeal := fun m ρ _ =>
  (θ_run Cert.ReferenceIdeal.defs _ _).mono (fun _ h => ⟨fun c => (h c).2, sem_eq_zero_of_no_sems rfl _⟩)
    (Cert.ReferenceIdeal.Value.run (F := Ideal) m ρ)

/-- The reference, where the floats are finite too. -/
theorem frame_reference_finite : Cert.quiescent_ReferenceIdeal_pre_finite_in_range := fun m ρ _ => frame_reference m ρ trivial

end Cert.Proof

end
-- ==== Proof.Algebra.lean ====
/-
  The mathematics of the certificate, over the extended reals. A row of the dense matrix is, at column `m`, the sum of the row's
  values whose column is `m`; a product with such a row is the sum over the row's pairs of the input at the pair's column times
  the pair's value.
-/
module

public import proofs.«01_k».proof.Proof.Tile
public import Idealize.ShloMosaic.Lib.Pointwise

@[expose] public section

noncomputable section

namespace Cert.Proof

open Cert.KernelIdeal Cert.KernelIdeal.Gen
open Idealize.ShloMosaic

/-- A guarded running sum is the start plus the sum of the guarded terms. -/
theorem foldl_guard {ι : Type} (p : ι → Prop) [DecidablePred p] (f : ι → EReal) (L : List ι) (a : EReal) :
    L.foldl (fun acc l => if p l then acc + f l else acc) a = a + (L.map fun l => if p l then f l else 0).sum := by
  induction L generalizing a with
  | nil => simp
  | cons l L ih =>
    rw [List.foldl_cons, ih, List.map_cons, List.sum_cons]
    split
    · rw [add_assoc]
    · rw [zero_add]

/-- One chunk at exact values. -/
theorem putC_sum (C : ℕ → ℕ → BitVec 32) (V : ℕ → ℕ → Ideal .f32) (r ch m : ℕ) (a : Ideal .f32) :
    putC C V r ch m a = (a + ∑ l : Fin 16, if (C r (16 * ch + l.val)).toNat = m then V r (16 * ch + l.val) else 0 : EReal) := by
  refine (foldl_guard (fun l : Fin 16 => (C r (16 * ch + l.val)).toNat = m) (fun l => V r (16 * ch + l.val)) (List.finRange 16) a).trans ?_
  rw [← List.ofFn_eq_map, List.sum_ofFn]

/-- One element of the dense matrix at exact values: the sum of the row's values whose column it is. -/
theorem dense_sum (C : ℕ → ℕ → BitVec 32) (V : ℕ → ℕ → Ideal .f32) (n m : ℕ) :
    dense C V n m = (∑ k : Fin 48, if (C n k.val).toNat = m then V n k.val else 0 : EReal) := by
  rw [dense, putC_sum, putC_sum, putC_sum]
  have hZ : (Z : Ideal .f32) = (0 : EReal) := Ideal.ofBits_zero_f32
  rw [hZ, zero_add]
  have h1 := Fin.sum_univ_add (a := 16) (b := 16 + 16) (fun k : Fin (16 + (16 + 16)) => if (C n k.val).toNat = m then (V n k.val : EReal) else 0)
  have h2 := Fin.sum_univ_add (a := 16) (b := 16) (fun k : Fin (16 + 16) => if (C n (16 + k.val)).toNat = m then (V n (16 + k.val) : EReal) else 0)
  refine Eq.trans ?_ h1.symm
  simp only [Fin.val_castAdd, Fin.val_natAdd]
  refine Eq.trans ?_ (congrArg _ h2.symm)
  simp only [Fin.val_castAdd, Fin.val_natAdd, ← add_assoc, Nat.mul_zero, Nat.zero_add, Nat.mul_one, Nat.reduceAdd, Nat.reduceMul]

/-- The sum of finitely many reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real row times a row of summed pairs: the sum over the pairs. -/
theorem contract {M K : ℕ} (x : Fin M → EReal) (c : Fin K → Fin M) (v : Fin K → EReal)
    (hx : ∀ m, ∃ r : ℝ, x m = r) (hv : ∀ k, ∃ r : ℝ, v k = r) :
    ∑ m, x m * (∑ k, if (c k).val = m.val then v k else 0) = ∑ k, v k * x (c k) := by
  choose xr hxr using hx
  choose vr hvr using hv
  have hin : ∀ m, (∑ k, if (c k).val = m.val then v k else 0 : EReal) = ((∑ k, if c k = m then vr k else 0 : ℝ) : EReal) := fun m => by
    rw [coe_sum]
    refine Finset.sum_congr rfl fun k _ => ?_
    by_cases h : c k = m
    · rw [if_pos h, if_pos (congrArg _ h), hvr]
    · rw [if_neg h, if_neg fun e => h (Fin.ext e), EReal.coe_zero]
  simp only [hin]
  simp only [hxr, hvr, ← EReal.coe_mul, ← coe_sum]
  refine congrArg (fun r : ℝ => (r : EReal)) (?_ : (_ : ℝ) = _)
  simp only [Finset.mul_sum]
  rw [Finset.sum_comm]
  refine Finset.sum_congr rfl fun k _ => ?_
  simp only [mul_ite, mul_zero, Finset.sum_ite_eq, Finset.mem_univ, if_true]
  exact mul_comm _ _

/-- The padded pairs, whose value is zero, add nothing. -/
theorem drop_padding (f : Fin 48 → EReal) (h : ∀ k : Fin 48, 41 ≤ k.val → f k = 0) :
    ∑ k : Fin 48, f k = ∑ k : Fin 41, f ⟨k.val, by omega⟩ := by
  refine (Fin.sum_univ_add (a := 41) (b := 7) f).trans ?_
  rw [Finset.sum_eq_zero (s := Finset.univ) (f := fun i : Fin 7 => f (Fin.natAdd 41 i)) fun i _ => h _ (by simp), add_zero]
  rfl

end Cert.Proof

end
-- ==== Proof.Value.lean ====
/-
  The two results as one plain formula. At exact values, with the columns in range and the floats finite, the kernel's result and the
  reference's are both, at row `b` and column `n`, the sum over the 41 pairs of row `n` of the pair's value times the input's row `b`
  at the pair's column, plus the bias at `n`.
-/
module

public import proofs.«01_k».proof.Proof.Algebra
public import proofs.«01_k».proof.Proof.Range
public import proofs.«01_k».proof.Proof.Gen.ReferenceIdeal

@[expose] public section

noncomputable section

namespace Cert.Proof

open Idealize.ShloMosaic Idealize.ShloMosaic.TcCoe

/-- The column of pair `k` of row `n`, as a column of the input. -/
def colAt (c : IVec Cert.KernelIdeal.S4096x41 32) (n : Fin 4096) (k : Fin 41) : Fin 4096 := Fin.ofNat 4096 (c (ix2 n k)).toNat

/-- The formula. -/
def SPEC (x : FVec Ideal Cert.KernelIdeal.S256x4096 .f32) (w : FVec Ideal Cert.KernelIdeal.S4096x41 .f32) (c : IVec Cert.KernelIdeal.S4096x41 32)
    (b : FVec Ideal Cert.KernelIdeal.S4096 .f32) : FVec Ideal Cert.KernelIdeal.S256x4096 .f32 := fun j =>
  ((∑ k : Fin 41, (w (ix2 (j 1) k) : EReal) * (x (ix2 (j 0) (colAt c (j 1) k)) : EReal)) + (b (ix1 (j 1)) : EReal) : EReal)

/-! ## The reference -/

section Reference

open Cert.ReferenceIdeal Cert.ReferenceIdeal.Gen

/-- The reference's wrap of negative columns. -/
def wrap (c : IVec S4096x41 32) : IVec S4096x41 32 :=
  select (cmpi .slt c (broadcastInDim S4096x41 ![] bcast_S_S4096x41 (constantI S_ 32 0#32)))
    (addi c (broadcastInDim S4096x41 ![] bcast_S_S4096x41 (constantI S_ 32 4096#32))) c

/-- A column that is not negative is not moved. -/
theorem wrapped (c : IVec S4096x41 32) (hc : ∀ i, (c i).toNat < 4096) : wrap c = c := by
  funext i
  have h : IntOp.cmpi .slt (c i) 0#32 = 0#1 := by
    have := hc i
    have hs : (c i).slt 0#32 = false := by
      rw [BitVec.slt_eq_decide, decide_eq_false_iff_not, BitVec.toInt_eq_toNat_cond]
      simp only [BitVec.toInt_zero]
      split <;> omega
    simp [IntOp.cmpi, hs]
  show Scalar.select (IntOp.cmpi .slt (c i) 0#32) _ (c i) = c i
  rw [h]
  rfl

/-- The test that a wrapped column is in range holds. -/
theorem in_range_mask (c : IVec S4096x41 32) (hc : ∀ i, (c i).toNat < 4096) (j : S4096x41.Idx) :
    Host.reduce IntOp.andi (andi
        (cmpi .sge (broadcastInDim S4096x41x1 ![0, 1] bcast_S4096x41_S4096x41x1_0_1 c) (broadcastInDim S4096x41x1 ![] bcast_S_S4096x41x1 (constantI S_ 32 0#32)))
        (cmpi .sle (broadcastInDim S4096x41x1 ![0, 1] bcast_S4096x41_S4096x41x1_0_1 c)
          (broadcastInDim S4096x41x1 ![0, 1, 2] bcast_S1x1x1_S4096x41x1_0_1_2 (broadcastInDim S1x1x1 ![2] bcast_S1_S1x1x1_2 (constantI S1 32 4095#32)))))
      (constantI S_ 1 1#1) reducesTo_S4096x41x1_S4096x41_d2 h_S_ j = 1#1 := by
  refine Host.reduce_andi_one _ _ _ _ _ rfl fun i => ?_
  have key : ∀ v : BitVec 32, v.toNat < 4096 → IntOp.andi (IntOp.cmpi .sge v 0#32) (IntOp.cmpi .sle v 4095#32) = 1#1 := by
    intro v hv
    simp only [IntOp.cmpi, andi_bits, bit_one, Bool.and_eq_true, BitVec.sle_eq_decide, decide_eq_true_eq, BitVec.toInt_eq_toNat_cond,
      BitVec.toNat_ofNat, Nat.reducePow, Nat.reduceMod]
    omega
  exact key _ (hc _)

/-- The gather of the reference at an index: the input's row at the column, read signed and clamped. -/
theorem gathered {α : Type} (x : S256x4096.Idx → α) (idx : IVec S4096x41x1 32) (b : Fin 256) (n : Fin 4096) (k : Fin 41) :
    Host.gather gather_S256x4096_S4096x41x1_S256x4096x41_0_1_n_n_1_2_2561 x idx (ix3 b n k)
      = x (ix2 b ⟨min (idx (ix3 n k 0)).toInt.toNat 4095, by omega⟩) := by
  unfold Host.gather
  congr 1
  funext a
  refine Fin.ext ?_
  show GatherDims.start _ (ix3 b n k) idx a + GatherDims.batchCoord _ (ix3 b n k) a + GatherDims.offCoord _ (ix3 b n k) a = _
  rw [GatherDims.batchCoord_eq_zero _ _ _ List.not_mem_nil, Nat.add_zero]
  match a with
  | ⟨0, _⟩ =>
    have hs : GatherDims.start gather_S256x4096_S4096x41x1_S256x4096x41_0_1_n_n_1_2_2561 (ix3 b n k) idx 0 = 0 := by
      unfold GatherDims.start
      rw [dif_neg (by decide)]
    show GatherDims.start _ (ix3 b n k) idx 0 + GatherDims.offCoord _ (ix3 b n k) 0 = _
    rw [hs, Nat.zero_add]
    unfold GatherDims.offCoord
    rw [dif_pos (by decide)]
    rfl
  | ⟨1, _⟩ =>
    have ho : GatherDims.offCoord gather_S256x4096_S4096x41x1_S256x4096x41_0_1_n_n_1_2_2561 (ix3 b n k) 1 = 0 :=
      GatherDims.offCoord_eq_zero _ _ _ (by decide)
    show GatherDims.start _ (ix3 b n k) idx 1 + GatherDims.offCoord _ (ix3 b n k) 1 = _
    rw [ho, Nat.add_zero]
    unfold GatherDims.start
    rw [dif_pos (by decide)]
    have hi : GatherDims.siIdx gather_S256x4096_S4096x41x1_S256x4096x41_0_1_n_n_1_2_2561 (ix3 b n k)
        ⟨List.idxOf (1 : Fin 2) [1], by decide⟩ = ix3 n k 0 := by
      funext q
      refine Fin.ext ?_
      match q with
      | ⟨0, _⟩ => rfl
      | ⟨1, _⟩ => rfl
      | ⟨2, _⟩ => rfl
    exact congrArg (fun i => min (idx i).toInt.toNat 4095) hi

/-- The gathered array at an index in range. -/
theorem taken_apply (x : FVec Ideal S256x4096 .f32) (c : IVec S4096x41 32) (hc : ∀ i, (c i).toNat < 4096) (b : Fin 256) (n : Fin 4096) (k : Fin 41) :
    Host.gather gather_S256x4096_S4096x41x1_S256x4096x41_0_1_n_n_1_2_2561 x (broadcastInDim S4096x41x1 ![0, 1] bcast_S4096x41_S4096x41x1_0_1 c) (ix3 b n k)
      = x (ix2 b (colAt c n k)) := by
  rw [gathered]
  have h : broadcastInDim S4096x41x1 ![0, 1] bcast_S4096x41_S4096x41x1_0_1 c (ix3 n k 0) = c (ix2 n k) := by pointwise
  congr 2
  refine Fin.ext ?_
  show min (broadcastInDim S4096x41x1 ![0, 1] bcast_S4096x41_S4096x41x1_0_1 c (ix3 n k 0)).toInt.toNat 4095 = (c (ix2 n k)).toNat % 4096
  rw [h]
  have := hc (ix2 n k)
  rw [BitVec.toInt_eq_toNat_cond]
  split <;> omega

/-- The reference's term, of columns already wrapped. -/
def REF (x : FVec Ideal S256x4096 .f32) (w : FVec Ideal S4096x41 .f32) (c : IVec S4096x41 32) (b : FVec Ideal S4096 .f32) : FVec Ideal S256x4096 .f32 :=
  addf (transpose S256x4096 [1, 0] (Host.dotGeneral dot_S4096x41_S256x4096x41_S4096x256_1_2_n_0_0_1 none w
      (select (broadcastInDim S256x4096x41 ![1, 2] bcast_S4096x41_S256x4096x41_1_2
          (Host.reduce IntOp.andi (andi
              (cmpi .sge (broadcastInDim S4096x41x1 ![0, 1] bcast_S4096x41_S4096x41x1_0_1 c) (broadcastInDim S4096x41x1 ![] bcast_S_S4096x41x1 (constantI S_ 32 0#32)))
              (cmpi .sle (broadcastInDim S4096x41x1 ![0, 1] bcast_S4096x41_S4096x41x1_0_1 c)
                (broadcastInDim S4096x41x1 ![0, 1, 2] bcast_S1x1x1_S4096x41x1_0_1_2 (broadcastInDim S1x1x1 ![2] bcast_S1_S1x1x1_2 (constantI S1 32 4095#32)))))
            (constantI S_ 1 1#1) reducesTo_S4096x41x1_S4096x41_d2 h_S_))
        (Host.gather gather_S256x4096_S4096x41x1_S256x4096x41_0_1_n_n_1_2_2561 x (broadcastInDim S4096x41x1 ![0, 1] bcast_S4096x41_S4096x41x1_0_1 c))
        (broadcastInDim S256x4096x41 ![] bcast_S_S256x4096x41 (constant S_ .f32 0x7FC00000#32)))) transposes_S4096x256_S256x4096_1_0)
    (broadcastInDim S256x4096 ![0, 1] bcast_S1x4096_S256x4096_0_1 (broadcastInDim S1x4096 ![1] bcast_S4096_S1x4096_1 b))

/-- A selection whose mask holds everywhere is its first array. -/
theorem select_mask (p : IVec S4096x41 1) (hp : ∀ j, p j = 1#1) (g e : FVec Ideal S256x4096x41 .f32) :
    select (broadcastInDim S256x4096x41 ![1, 2] bcast_S4096x41_S256x4096x41_1_2 p) g e = g := by
  funext i
  have h : broadcastInDim S256x4096x41 ![1, 2] bcast_S4096x41_S256x4096x41_1_2 p i = 1#1 := hp _
  show Scalar.select (broadcastInDim S256x4096x41 ![1, 2] bcast_S4096x41_S256x4096x41_1_2 p i) (g i) (e i) = g i
  rw [h]
  rfl

/-- The selected array: the mask holds everywhere, so it is the gathered one. -/
theorem selected (x : FVec Ideal S256x4096 .f32) (c : IVec S4096x41 32) (hc : ∀ i, (c i).toNat < 4096) (e : FVec Ideal S256x4096x41 .f32) :
    select (broadcastInDim S256x4096x41 ![1, 2] bcast_S4096x41_S256x4096x41_1_2
          (Host.reduce IntOp.andi (andi
              (cmpi .sge (broadcastInDim S4096x41x1 ![0, 1] bcast_S4096x41_S4096x41x1_0_1 c) (broadcastInDim S4096x41x1 ![] bcast_S_S4096x41x1 (constantI S_ 32 0#32)))
              (cmpi .sle (broadcastInDim S4096x41x1 ![0, 1] bcast_S4096x41_S4096x41x1_0_1 c)
                (broadcastInDim S4096x41x1 ![0, 1, 2] bcast_S1x1x1_S4096x41x1_0_1_2 (broadcastInDim S1x1x1 ![2] bcast_S1_S1x1x1_2 (constantI S1 32 4095#32)))))
            (constantI S_ 1 1#1) reducesTo_S4096x41x1_S4096x41_d2 h_S_))
        (Host.gather gather_S256x4096_S4096x41x1_S256x4096x41_0_1_n_n_1_2_2561 x (broadcastInDim S4096x41x1 ![0, 1] bcast_S4096x41_S4096x41x1_0_1 c)) e
      = fun i => x (ix2 (i 0) (colAt c (i 1) (i 2))) := by
  rw [select_mask _ (in_range_mask c hc)]
  funext i
  obtain ⟨r, n, k, rfl⟩ : ∃ (r : Fin 256) (n : Fin 4096) (k : Fin 41), i = ix3 r n k := ⟨i 0, i 1, i 2, eq_ix3 i⟩
  exact taken_apply x c hc r n k

/-- The reference's result is the formula. -/
theorem ref_spec (x : FVec Ideal S256x4096 .f32) (w : FVec Ideal S4096x41 .f32) (c : IVec S4096x41 32) (b : FVec Ideal S4096 .f32)
    (hc : ∀ i, (c i).toNat < 4096) : REF x w c b = SPEC x w c b := by
  funext j
  unfold REF
  rw [selected x c hc]
  idx_vars j
  pointwise [SPEC]

end Reference

/-! ## The kernel -/

section Kernel

open Cert.KernelIdeal Cert.KernelIdeal.Gen

/-- The bias the kernel loads for the block of column `n`, at that column's place in the block. -/
theorem bias_apply (b : FVec Ideal S4096 .f32) (n : Fin 4096) :
    biasAt (F := Ideal) (gridOf n) b (ix1 ⟨n.val % 512, Nat.mod_lt _ (by omega)⟩) = b (ix1 n) := by
  refine congrArg b (funext fun a => Fin.ext ?_)
  obtain rfl : a = 0 := Subsingleton.elim _ _
  have h : k1_off1 (gridOf n) 0 = 512 * (n.val / 512) := by
    show (BitVec.ofNat 32 (n.val / 512) * 512#32).toNat = _
    have := n.isLt
    rw [BitVec.toNat_mul, BitVec.toNat_ofNat]
    simp only [BitVec.toNat_ofNat, Nat.reducePow, Nat.reduceMod]
    omega
  show k1_off1 (gridOf n) 0 + 1 * (n.val % 512) = n.val
  rw [h]
  omega

/-- The kernel's result, whatever the dense matrix: each row of the input times each row of the matrix, plus the bias. -/
theorem out_apply (x : FVec Ideal S256x4096 .f32) (Wd : FVec Ideal S4096x4096 .f32) (b : FVec Ideal S4096 .f32) (r : Fin 256) (n : Fin 4096) :
    OUT (F := Ideal) x Wd b (ix2 r n) = ((∑ m : Fin 4096, (x (ix2 r m) : EReal) * (Wd (ix2 n m) : EReal)) + (b (ix1 n) : EReal) : EReal) := by
  unfold OUT blkG
  pointwise [k1_pay1]
  refine congr_arg₂ (fun u v : EReal => u + v) (Finset.sum_congr rfl fun m _ => congrArg (fun v : EReal => (x (ix2 r m) : EReal) * v) ?_) (bias_apply b n)
  refine congrArg Wd (funext fun a => Fin.ext ?_)
  match a with
  | ⟨0, _⟩ => exact Nat.div_add_mod n.val 512
  | ⟨1, _⟩ => rfl

/-- The padded columns and the padded values. -/
abbrev padC (c : IVec S4096x41 32) : IVec S4096x48 32 :=
  pad S4096x48 ![0, 0] ![0, 7] ![0, 0] c (constantI S_ 32 0#32) pads_S4096x41_S4096x48_000_070 h_S_
abbrev padV (w : FVec Ideal S4096x41 .f32) : FVec Ideal S4096x48 .f32 :=
  pad S4096x48 ![0, 0] ![0, 7] ![0, 0] w (sitofp .f32 (constantI S_ 32 0#32)) pads_S4096x41_S4096x48_000_070 h_S_

/-- The padding value is zero. -/
theorem padV_zero : (sitofp (F := Ideal) .f32 (constantI S_ 32 0#32)) (Shape.Idx.first h_S_) = (0 : EReal) := by
  show ((BitVec.toInt 0#32 : ℝ) : EReal) = 0
  simp

/-- The kernel's result is the formula. -/
theorem kernel_spec (x : FVec Ideal S256x4096 .f32) (w : FVec Ideal S4096x41 .f32) (c : IVec S4096x41 32) (b : FVec Ideal S4096 .f32)
    (hc : ∀ i, (c i).toNat < 4096) (hx : ∀ i, ∃ r : ℝ, x i = (r : EReal)) (hw : ∀ i, ∃ r : ℝ, w i = (r : EReal)) :
    OUT (F := Ideal) x (WD (F := Ideal) (padC c) (padV w)) b = SPEC x w c b := by
  funext j
  obtain ⟨r, n, rfl⟩ : ∃ (r : Fin 256) (n : Fin 4096), j = ix2 r n := ⟨j 0, j 1, eq_ix2 j⟩
  rw [out_apply]
  have hcol : ∀ k : Fin 48, (CH (F := Ideal) (padC c) n.val k.val).toNat < 4096 := fun k => by
    rcases padded_cases c (constantI S_ 32 0#32) (ixH n.val k.val) with ⟨i, e⟩ | e
    · exact (congrArg BitVec.toNat e).trans_lt (hc i)
    · exact (congrArg BitVec.toNat e).trans_lt (by decide)
  have hval : ∀ k : Fin 48, ∃ q : ℝ, VH (F := Ideal) (padV w) n.val k.val = (q : EReal) := fun k => by
    rcases padded_cases w (sitofp (F := Ideal) .f32 (constantI S_ 32 0#32)) (ixH n.val k.val) with ⟨i, e⟩ | e
    · exact (hw i).imp fun q hq => e.trans hq
    · exact ⟨0, e.trans (padV_zero.trans EReal.coe_zero.symm)⟩
  have h1 := contract (fun m : Fin 4096 => (x (ix2 r m) : EReal)) (fun k : Fin 48 => (⟨(CH (F := Ideal) (padC c) n.val k.val).toNat, hcol k⟩ : Fin 4096))
    (fun k : Fin 48 => (VH (F := Ideal) (padV w) n.val k.val : EReal)) (fun m => hx _) hval
  have h2 := drop_padding (fun k : Fin 48 => (VH (F := Ideal) (padV w) n.val k.val : EReal) * (x (ix2 r ⟨(CH (F := Ideal) (padC c) n.val k.val).toNat, hcol k⟩) : EReal))
    fun k hk => by
      have e : VH (F := Ideal) (padV w) n.val k.val = (0 : EReal) := (padded_out w _ n.val k.val hk k.isLt).trans padV_zero
      simp only [e, zero_mul]
  refine congrArg (fun u : EReal => u + (b (ix1 n) : EReal)) ?_
  refine Eq.trans (Finset.sum_congr rfl fun m _ => congrArg (fun v : EReal => (x (ix2 r m) : EReal) * v) (dense_sum _ _ _ _)) (h1.trans (h2.trans ?_))
  refine Finset.sum_congr rfl fun k _ => ?_
  have ev : VH (F := Ideal) (padV w) n.val k.val = w (ix2 n k) := (padded_in w _ n k).trans (congrArg w (eq_ix2 _))
  have ec : CH (F := Ideal) (padC c) n.val k.val = c (ix2 n k) := (padded_in c _ n k).trans (congrArg c (eq_ix2 _))
  refine congr_arg₂ (fun u v : EReal => u * v) ev (congrArg (fun q => x (ix2 r q)) (Fin.ext ?_))
  exact (congrArg BitVec.toNat ec).trans (Nat.mod_eq_of_lt (hc _)).symm

end Kernel

end Cert.Proof

end
-- ==== Proof.lean ====
/-
  The certificate. The kernel has two calls: a SparseCore call that scatters each row's 41 pairs (padded to 48) into a dense
  4096 × 4096 matrix, and a TensorCore call that multiplies the input by it and adds the bias. Its run is proved once, over any float
  values (Proof/Main.lean): the modules under it follow a tile's fetches, its double-buffered trips and its copies out
  (Scatter, Setup, Dma, Parts, Trip, Tile, Tasks), the TensorCore's call (Region), and how the tiles' rows make the whole matrix
  (Join). The frames are that run with the preconditions unpacked (Range, Frames). The value is the mathematics of exact sums
  (Algebra, Value): kernel and reference are one formula. Here the pieces meet.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_in_range
public import proofs.«01_k».proof.Proof.Gen.Pre_in_range
public import proofs.«01_k».proof.Proof.Frames
public import proofs.«01_k».proof.Proof.Value

@[expose] public section

noncomputable section

namespace Cert.Proof

open Idealize.ShloMosaic Idealize.ShloMosaic.TcCoe Idealize.SL.Sem

/-- The formula at the kernel's arguments. -/
def result (m : (ℓ : Loc Cert.KernelIdeal.nD Cert.KernelIdeal.τ Cert.KernelIdeal.sig) → Buf (Elt Ideal) ℓ) (c : Dev Cert.KernelIdeal.nD) :
    FVec Ideal Cert.KernelIdeal.S256x4096 .f32 :=
  SPEC (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))

/-- At exact values the kernel's result and the reference's are equal. -/
theorem algebraic : Cert.algebraic_KernelIdeal_ReferenceIdeal_pre_finite_in_range := by
  intro m g m' g' hpre hagree
  refine ⟨result m, ?_, ?_⟩
  · refine (θ_run Cert.KernelIdeal.defs _ _).mono (fun _ h c => ⟨(h.1 c).1.trans ?_, (h.1 c).2⟩)
      (run_main (F := Ideal) m g (colsOK m fun d => cols_in_range' _ _ _ _ (hpre d)))
    exact kernel_spec _ _ _ _ (cols_in_range' _ _ _ _ (hpre c)) (input_real _ _ _ _ (hpre c)) (vals_real _ _ _ _ (hpre c))
  · refine (θ_run Cert.ReferenceIdeal.defs _ _).mono (fun r h c => ⟨?_, (h c).2⟩) (Cert.ReferenceIdeal.Value.run (F := Ideal) m' g')
    obtain ⟨h0, h1, h2, h3⟩ := hagree c
    have e : r.2.mem ((c.tc : Thread Cert.ReferenceIdeal.nD Cert.ReferenceIdeal.τ).loc Cert.ReferenceIdeal.main_v5)
        = REF (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (wrap (m' ((c.tc : Thread Cert.ReferenceIdeal.nD Cert.ReferenceIdeal.τ).loc Cert.ReferenceIdeal.main_arg2)))
          (m' ((c.tc : Thread Cert.ReferenceIdeal.nD Cert.ReferenceIdeal.τ).loc Cert.ReferenceIdeal.main_arg3)) := (h c).1
    have hc := cols_in_range' _ _ _ _ (hpre c)
    rw [e, h0, h1, h2, h3, wrapped _ hc]
    exact ref_spec _ _ _ _ hc

theorem claim : Cert.Claim :=
  ⟨Cert.Kernel.Gen.facts, Cert.KernelIdeal.Gen.facts, Cert.ReferenceIdeal.Gen.facts, Cert.Pre_in_range.Gen.facts, Cert.Pre_finite_in_range.Gen.facts,
    frame_kernel, frame_kernelIdeal, frame_kernelIdeal_finite, frame_reference, frame_reference_finite, trivial, algebraic⟩

end Cert.Proof

end
